-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S1 : Shape := ⟨1, ![1]⟩
abbrev S3x2x2048x256 : Shape := ⟨4, ![3, 2, 2048, 256]⟩
abbrev S7x512x256 : Shape := ⟨3, ![7, 512, 256]⟩
abbrev S4 : Shape := ⟨1, ![4]⟩
abbrev S3x2x2 : Shape := ⟨3, ![3, 2, 2]⟩
abbrev S7 : Shape := ⟨1, ![7]⟩
abbrev S_ : Shape := ⟨0, ![]⟩
abbrev S1024x256 : Shape := ⟨2, ![1024, 256]⟩
abbrev S1x1x1 : Shape := ⟨3, ![1, 1, 1]⟩
abbrev S1x1x1024x256 : Shape := ⟨4, ![1, 1, 1024, 256]⟩
abbrev S512x256 : Shape := ⟨2, ![512, 256]⟩
abbrev S2048x256 : Shape := ⟨2, ![2048, 256]⟩
abbrev S512x2048 : Shape := ⟨2, ![512, 2048]⟩
abbrev S1x512x256 : Shape := ⟨3, ![1, 512, 256]⟩
abbrev S1x1x2048x256 : Shape := ⟨4, ![1, 1, 2048, 256]⟩

abbrev nBuf : Space → Nat
  | .hbm => 5
  | .vmem => 9
  | .smem => 2
  | _ => 0

abbrev bufTy : (tb : Table) → Fin (tcTables nBuf tb) → BufTy
  | .hbm, ⟨0, _⟩ => ⟨S512x4096, .fp8e4m3⟩
  | .hbm, ⟨1, _⟩ => ⟨S4096x256, .fp8e5m2⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .fp8e4m3⟩
  | .local _ .vmem, ⟨1, _⟩ => ⟨S4096x256, .fp8e5m2⟩
  | .local _ .vmem, ⟨2, _⟩ => ⟨S4096x256, .f32⟩
  | .local _ .vmem, ⟨3, _⟩ => ⟨S512x4096, .bf16⟩
  | .local _ .vmem, ⟨4, _⟩ => ⟨S4096x256, .fp8e5m2⟩
  | .local _ .vmem, ⟨5, _⟩ => ⟨S3x2x2048x256, .fp8e5m2⟩
  | .local _ .vmem, ⟨6, _⟩ => ⟨S3x2x2048x256, .fp8e5m2⟩
  | .local _ .vmem, ⟨7, _⟩ => ⟨S7x512x256, .bf16⟩
  | .local _ .vmem, ⟨8, _⟩ => ⟨S7x512x256, .bf16⟩
  | .local _ .smem, ⟨0, _⟩ => ⟨S1, .f32⟩
  | .local _ .smem, ⟨1, _⟩ => ⟨S1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v33 : BitVec 32 := Scalar.addi v2 c1_i32_14
  let c8_i32_15 : BitVec 32 := 8#32
  let v34 : BitVec 32 := Scalar.remsi v33 c8_i32_15
  let c1_i32_17 : BitVec 32 := 1#32
  let v35 : BitVec 32 := Scalar.muli v34 c1_i32_17
  let v36 : BitVec 32 := Scalar.addi c0_i32_18 v35
  v36.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v37 : BitVec 32 := Scalar.addi v2 c2_i32
  let c8_i32_19 : BitVec 32 := 8#32
  let v38 : BitVec 32 := Scalar.remsi v37 c8_i32_19
  let c1_i32_21 : BitVec 32 := 1#32
  let v39 : BitVec 32 := Scalar.muli v38 c1_i32_21
  let v40 : BitVec 32 := Scalar.addi c0_i32_22 v39
  v40.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.addi v2 c3_i32
  let c8_i32_23 : BitVec 32 := 8#32
  let v42 : BitVec 32 := Scalar.remsi v41 c8_i32_23
  let c1_i32_25 : BitVec 32 := 1#32
  let v43 : BitVec 32 := Scalar.muli v42 c1_i32_25
  let v44 : BitVec 32 := Scalar.addi c0_i32_26 v43
  v44.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_27 : BitVec 32 := 4#32
  let v45 : BitVec 32 := Scalar.addi v2 c4_i32_27
  let c8_i32_28 : BitVec 32 := 8#32
  let v46 : BitVec 32 := Scalar.remsi v45 c8_i32_28
  let c1_i32_30 : BitVec 32 := 1#32
  let v47 : BitVec 32 := Scalar.muli v46 c1_i32_30
  let v48 : BitVec 32 := Scalar.addi c0_i32_31 v47
  v48.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v49 : BitVec 32 := Scalar.addi v2 c5_i32
  let c8_i32_32 : BitVec 32 := 8#32
  let v50 : BitVec 32 := Scalar.remsi v49 c8_i32_32
  let c1_i32_34 : BitVec 32 := 1#32
  let v51 : BitVec 32 := Scalar.muli v50 c1_i32_34
  let v52 : BitVec 32 := Scalar.addi c0_i32_35 v51
  v52.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v53 : BitVec 32 := Scalar.addi v2 c6_i32
  let c8_i32_36 : BitVec 32 := 8#32
  let v54 : BitVec 32 := Scalar.remsi v53 c8_i32_36
  let c1_i32_38 : BitVec 32 := 1#32
  let v55 : BitVec 32 := Scalar.muli v54 c1_i32_38
  let v56 : BitVec 32 := Scalar.addi c0_i32_39 v55
  v56.toNat
def k0_dev7 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v57 : BitVec 32 := Scalar.addi v2 c7_i32
  let c8_i32_40 : BitVec 32 := 8#32
  let v58 : BitVec 32 := Scalar.remsi v57 c8_i32_40
  let c1_i32_42 : BitVec 32 := 1#32
  let v59 : BitVec 32 := Scalar.muli v58 c1_i32_42
  let v60 : BitVec 32 := Scalar.addi c0_i32_43 v59
  v60.toNat
def k0_dev8 (d0 : Dev nD) : Nat :=
  let c0_i32_48 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let v31 : BitVec 32 := Scalar.addi v22 v21
  let c1_i32_47 : BitVec 32 := 1#32
  let v61 : BitVec 32 := Scalar.muli v31 c1_i32_47
  let v62 : BitVec 32 := Scalar.addi c0_i32_48 v61
  v62.toNat
def k0_dev9 (d0 : Dev nD) : Nat :=
  let c0_i32_56 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let v31 : BitVec 32 := Scalar.addi v22 v21
  let c1_i32_55 : BitVec 32 := 1#32
  let v69 : BitVec 32 := Scalar.muli v31 c1_i32_55
  let v70 : BitVec 32 := Scalar.addi c0_i32_56 v69
  v70.toNat
def k0_dev10 (d0 : Dev nD) : Nat :=
  let c0_i32_63 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let v31 : BitVec 32 := Scalar.addi v22 v21
  let c1_i32_62 : BitVec 32 := 1#32
  let v77 : BitVec 32 := Scalar.muli v31 c1_i32_62
  let v78 : BitVec 32 := Scalar.addi c0_i32_63 v77
  v78.toNat
def k0_dev11 (d0 : Dev nD) : Nat :=
  let c0_i32_70 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let v31 : BitVec 32 := Scalar.addi v22 v21
  let c1_i32_69 : BitVec 32 := 1#32
  let v85 : BitVec 32 := Scalar.muli v31 c1_i32_69
  let v86 : BitVec 32 := Scalar.addi c0_i32_70 v85
  v86.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_83 : BitVec 32 := 1#32
  let v96 : BitVec 32 := Scalar.muli v30 c1_i32_83
  let v97 : BitVec 32 := Scalar.addi c0_i32_84 v96
  v97.toNat
def k0_dev13 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_97 : BitVec 32 := 1#32
  let v105 : BitVec 32 := Scalar.muli v30 c1_i32_97
  let v106 : BitVec 32 := Scalar.addi c0_i32_98 v105
  v106.toNat
def k0_dev14 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_111 : BitVec 32 := 1#32
  let v114 : BitVec 32 := Scalar.muli v26 c1_i32_111
  let v115 : BitVec 32 := Scalar.addi c0_i32_112 v114
  v115.toNat
def k0_dev15 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_125 : BitVec 32 := 1#32
  let v123 : BitVec 32 := Scalar.muli v26 c1_i32_125
  let v124 : BitVec 32 := Scalar.addi c0_i32_126 v123
  v124.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v145 : BitVec 32 := Scalar.muli v2 c512_i32
  let v146 : Index := Scalar.indexCast v145
  let c0_139 : Index := 0#32
  ![v146.toNat, 0]
def k0_dev16 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_156 : BitVec 32 := 1#32
  let v154 : BitVec 32 := Scalar.muli v30 c1_i32_156
  let v155 : BitVec 32 := Scalar.addi c0_i32_157 v154
  v155.toNat
def k0_dev17 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_178 : BitVec 32 := 1#32
  let v169 : BitVec 32 := Scalar.muli v26 c1_i32_178
  let v170 : BitVec 32 := Scalar.addi c0_i32_179 v169
  v170.toNat
def k0_dev18 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_208 : BitVec 32 := 1#32
  let v185 : BitVec 32 := Scalar.muli v30 c1_i32_208
  let v186 : BitVec 32 := Scalar.addi c0_i32_209 v185
  v186.toNat
def k0_dev19 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_238 : BitVec 32 := 1#32
  let v202 : BitVec 32 := Scalar.muli v26 c1_i32_238
  let v203 : BitVec 32 := Scalar.addi c0_i32_239 v202
  v203.toNat
def k0_dev20 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_260 : BitVec 32 := 1#32
  let v218 : BitVec 32 := Scalar.muli v30 c1_i32_260
  let v219 : BitVec 32 := Scalar.addi c0_i32_261 v218
  v219.toNat
def k0_dev21 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_282 : BitVec 32 := 1#32
  let v233 : BitVec 32 := Scalar.muli v26 c1_i32_282
  let v234 : BitVec 32 := Scalar.addi c0_i32_283 v233
  v234.toNat
def k0_dev22 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_312 : BitVec 32 := 1#32
  let v249 : BitVec 32 := Scalar.muli v30 c1_i32_312
  let v250 : BitVec 32 := Scalar.addi c0_i32_313 v249
  v250.toNat
def k0_dev23 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_342 : BitVec 32 := 1#32
  let v266 : BitVec 32 := Scalar.muli v26 c1_i32_342
  let v267 : BitVec 32 := Scalar.addi c0_i32_343 v266
  v267.toNat
def k0_dev24 (d0 : Dev nD) : Nat :=
  let c0_i32_364 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let v31 : BitVec 32 := Scalar.addi v22 v21
  let c1_i32_363 : BitVec 32 := 1#32
  let v291 : BitVec 32 := Scalar.muli v31 c1_i32_363
  let v292 : BitVec 32 := Scalar.addi c0_i32_364 v291
  v292.toNat
def k0_dev25 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_393 : BitVec 32 := 1#32
  let v308 : BitVec 32 := Scalar.muli v30 c1_i32_393
  let v309 : BitVec 32 := Scalar.addi c0_i32_394 v308
  v309.toNat
def k0_dev26 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_423 : BitVec 32 := 1#32
  let v325 : BitVec 32 := Scalar.muli v26 c1_i32_423
  let v326 : BitVec 32 := Scalar.addi c0_i32_424 v325
  v326.toNat
def k0_dev27 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_453 : BitVec 32 := 1#32
  let v342 : BitVec 32 := Scalar.muli v30 c1_i32_453
  let v343 : BitVec 32 := Scalar.addi c0_i32_454 v342
  v343.toNat
def k0_dev28 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_483 : BitVec 32 := 1#32
  let v359 : BitVec 32 := Scalar.muli v26 c1_i32_483
  let v360 : BitVec 32 := Scalar.addi c0_i32_484 v359
  v360.toNat
def k0_dev29 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_515 : BitVec 32 := 1#32
  let v377 : BitVec 32 := Scalar.muli v30 c1_i32_515
  let v378 : BitVec 32 := Scalar.addi c0_i32_516 v377
  v378.toNat
def k0_dev30 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_547 : BitVec 32 := 1#32
  let v395 : BitVec 32 := Scalar.muli v26 c1_i32_547
  let v396 : BitVec 32 := Scalar.addi c0_i32_548 v395
  v396.toNat
def k0_dev31 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_579 : BitVec 32 := 1#32
  let v413 : BitVec 32 := Scalar.muli v30 c1_i32_579
  let v414 : BitVec 32 := Scalar.addi c0_i32_580 v413
  v414.toNat
def k0_dev32 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_611 : BitVec 32 := 1#32
  let v431 : BitVec 32 := Scalar.muli v26 c1_i32_611
  let v432 : BitVec 32 := Scalar.addi c0_i32_612 v431
  v432.toNat
def k0_dev33 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_643 : BitVec 32 := 1#32
  let v449 : BitVec 32 := Scalar.muli v30 c1_i32_643
  let v450 : BitVec 32 := Scalar.addi c0_i32_644 v449
  v450.toNat
def k0_dev34 (d0 : Dev nD) : Nat :=
  let c0_i32_676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_675 : BitVec 32 := 1#32
  let v467 : BitVec 32 := Scalar.muli v26 c1_i32_675
  let v468 : BitVec 32 := Scalar.addi c0_i32_676 v467
  v468.toNat
def k0_dev35 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_11 : BitVec 32 := 1#32
  let v27 : BitVec 32 := Scalar.addi v21 c1_i32_11
  let c8_i32_12 : BitVec 32 := 8#32
  let v28 : BitVec 32 := Scalar.addi v27 c8_i32_12
  let c4_i32_13 : BitVec 32 := 4#32
  let v29 : BitVec 32 := Scalar.remsi v28 c4_i32_13
  let v30 : BitVec 32 := Scalar.addi v20 v29
  let c1_i32_707 : BitVec 32 := 1#32
  let v485 : BitVec 32 := Scalar.muli v30 c1_i32_707
  let v486 : BitVec 32 := Scalar.addi c0_i32_708 v485
  v486.toNat
def k0_dev36 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_8 : BitVec 32 := 1#32
  let v23 : BitVec 32 := Scalar.subi v21 c1_i32_8
  let c8_i32_9 : BitVec 32 := 8#32
  let v24 : BitVec 32 := Scalar.addi v23 c8_i32_9
  let c4_i32_10 : BitVec 32 := 4#32
  let v25 : BitVec 32 := Scalar.remsi v24 c4_i32_10
  let v26 : BitVec 32 := Scalar.addi v20 v25
  let c1_i32_739 : BitVec 32 := 1#32
  let v503 : BitVec 32 := Scalar.muli v26 c1_i32_739
  let v504 : BitVec 32 := Scalar.addi c0_i32_740 v503
  v504.toNat
def k0_dev37 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c2_i32_745 : BitVec 32 := 2#32
  let v513 : BitVec 32 := Scalar.subi v21 c2_i32_745
  let c8_i32_746 : BitVec 32 := 8#32
  let v514 : BitVec 32 := Scalar.addi v513 c8_i32_746
  let c4_i32_747 : BitVec 32 := 4#32
  let v515 : BitVec 32 := Scalar.remsi v514 c4_i32_747
  let v516 : BitVec 32 := Scalar.addi v20 v515
  let c1_i32_768 : BitVec 32 := 1#32
  let v534 : BitVec 32 := Scalar.muli v516 c1_i32_768
  let v535 : BitVec 32 := Scalar.addi c0_i32_769 v534
  v535.toNat
def k0_dev38 (d0 : Dev nD) : Nat :=
  let c0_i32_798 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let c2_i32_774 : BitVec 32 := 2#32
  let v544 : BitVec 32 := Scalar.subi v21 c2_i32_774
  let c8_i32_775 : BitVec 32 := 8#32
  let v545 : BitVec 32 := Scalar.addi v544 c8_i32_775
  let c4_i32_776 : BitVec 32 := 4#32
  let v546 : BitVec 32 := Scalar.remsi v545 c4_i32_776
  let v547 : BitVec 32 := Scalar.addi v22 v546
  let c1_i32_797 : BitVec 32 := 1#32
  let v565 : BitVec 32 := Scalar.muli v547 c1_i32_797
  let v566 : BitVec 32 := Scalar.addi c0_i32_798 v565
  v566.toNat
def k0_dev39 (d0 : Dev nD) : Nat :=
  let c0_i32_955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_931 : BitVec 32 := 1#32
  let v639 : BitVec 32 := Scalar.subi v21 c1_i32_931
  let c8_i32_932 : BitVec 32 := 8#32
  let v640 : BitVec 32 := Scalar.addi v639 c8_i32_932
  let c4_i32_933 : BitVec 32 := 4#32
  let v641 : BitVec 32 := Scalar.remsi v640 c4_i32_933
  let v642 : BitVec 32 := Scalar.addi v20 v641
  let c1_i32_954 : BitVec 32 := 1#32
  let v660 : BitVec 32 := Scalar.muli v642 c1_i32_954
  let v661 : BitVec 32 := Scalar.addi c0_i32_955 v660
  v661.toNat
def k0_dev40 (d0 : Dev nD) : Nat :=
  let c0_i32_984 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let c1_i32_960 : BitVec 32 := 1#32
  let v670 : BitVec 32 := Scalar.subi v21 c1_i32_960
  let c8_i32_961 : BitVec 32 := 8#32
  let v671 : BitVec 32 := Scalar.addi v670 c8_i32_961
  let c4_i32_962 : BitVec 32 := 4#32
  let v672 : BitVec 32 := Scalar.remsi v671 c4_i32_962
  let v673 : BitVec 32 := Scalar.addi v22 v672
  let c1_i32_983 : BitVec 32 := 1#32
  let v691 : BitVec 32 := Scalar.muli v673 c1_i32_983
  let v692 : BitVec 32 := Scalar.addi c0_i32_984 v691
  v692.toNat
def k0_dev41 (d0 : Dev nD) : Nat :=
  let c0_i32_1014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c3_i32_989 : BitVec 32 := 3#32
  let v701 : BitVec 32 := Scalar.subi v21 c3_i32_989
  let c8_i32_990 : BitVec 32 := 8#32
  let v702 : BitVec 32 := Scalar.addi v701 c8_i32_990
  let c4_i32_991 : BitVec 32 := 4#32
  let v703 : BitVec 32 := Scalar.remsi v702 c4_i32_991
  let v704 : BitVec 32 := Scalar.addi v20 v703
  let c1_i32_1013 : BitVec 32 := 1#32
  let v722 : BitVec 32 := Scalar.muli v704 c1_i32_1013
  let v723 : BitVec 32 := Scalar.addi c0_i32_1014 v722
  v723.toNat
def k0_dev42 (d0 : Dev nD) : Nat :=
  let c0_i32_1043 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let c3_i32_1019 : BitVec 32 := 3#32
  let v732 : BitVec 32 := Scalar.subi v21 c3_i32_1019
  let c8_i32_1020 : BitVec 32 := 8#32
  let v733 : BitVec 32 := Scalar.addi v732 c8_i32_1020
  let c4_i32_1021 : BitVec 32 := 4#32
  let v734 : BitVec 32 := Scalar.remsi v733 c4_i32_1021
  let v735 : BitVec 32 := Scalar.addi v22 v734
  let c1_i32_1042 : BitVec 32 := 1#32
  let v753 : BitVec 32 := Scalar.muli v735 c1_i32_1042
  let v754 : BitVec 32 := Scalar.addi c0_i32_1043 v753
  v754.toNat
def k0_off2 (d0 : Dev nD) (c0_i32_1048 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let v763 : BitVec 32 := Scalar.addi v21 c0_i32_1048
  let c1_i32_1049 : BitVec 32 := 1#32
  let v764 : BitVec 32 := Scalar.addi v763 c1_i32_1049
  let c8_i32_1050 : BitVec 32 := 8#32
  let v765 : BitVec 32 := Scalar.addi v764 c8_i32_1050
  let c4_i32_1051 : BitVec 32 := 4#32
  let v766 : BitVec 32 := Scalar.remsi v765 c4_i32_1051
  let v767 : BitVec 32 := Scalar.addi v20 v766
  let c512_i32_1065 : BitVec 32 := 512#32
  let v779 : BitVec 32 := Scalar.muli v767 c512_i32_1065
  let v780 : Index := Scalar.indexCast v779
  let c0_1066 : Index := 0#32
  ![v780.toNat, 0]
def k0_off3 (d0 : Dev nD) (c3_i32_1105 : BitVec 32) : Fin 2 → Nat :=
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let v820 : BitVec 32 := Scalar.addi v21 c3_i32_1105
  let c2_i32_1106 : BitVec 32 := 2#32
  let v821 : BitVec 32 := Scalar.subi v820 c2_i32_1106
  let c8_i32_1107 : BitVec 32 := 8#32
  let v822 : BitVec 32 := Scalar.addi v821 c8_i32_1107
  let c4_i32_1108 : BitVec 32 := 4#32
  let v823 : BitVec 32 := Scalar.remsi v822 c4_i32_1108
  let v824 : BitVec 32 := Scalar.addi v22 v823
  let c512_i32_1122 : BitVec 32 := 512#32
  let v836 : BitVec 32 := Scalar.muli v824 c512_i32_1122
  let v837 : Index := Scalar.indexCast v836
  let c0_1123 : Index := 0#32
  ![v837.toNat, 0]
def k0_off4 (d0 : Dev nD) : Fin 2 → Nat :=
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_7 v20
  let c4_i32_6 : BitVec 32 := 4#32
  let v21 : BitVec 32 := Scalar.remsi v2 c4_i32_6
  let v31 : BitVec 32 := Scalar.addi v22 v21
  let c512_i32_1175 : BitVec 32 := 512#32
  let v888 : BitVec 32 := Scalar.muli v31 c512_i32_1175
  let v889 : Index := Scalar.indexCast v888
  let c0_1176 : Index := 0#32
  ![v889.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Plan.lean ====
/-
# The plan of the exchange: which transfers there are, between which devices, through which buffers

The eight devices form two planes of four; device `c` sits at place `c % 4` of plane `c / 4`. Every device sends
thirty-eight pieces, named by the type `T` below: four quarters of its own block of `w` to the device at the same place
of the other plane (`z`), twenty-four eighths travelling round the plane in both directions in three hops (`ring`), and
seven finished blocks of the product to the seven other devices (`res`).
This module fixes the names, the targets, the order in which they are issued and awaited, the semaphores and the
pieces of the buffers. Nothing here speaks of contents.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MM

open Cert.KernelIdeal Cert.KernelIdeal.Gen
open Idealize.ShloMosaic Idealize.ShloMosaic.TcCoe

/-- A transfer each device issues: a quarter of its own `w` across the planes; hop `h` in direction `d` (0 to the right,
    1 to the left) of half `s` of the piece that started in this plane (`j = 0`) or in the other (`j = 1`); the finished
    block of slot `k`. -/
inductive T
  | z (i : Fin 4)
  | ring (d : Fin 2) (h : Fin 3) (j s : Fin 2)
  | res (k : Fin 7)
deriving DecidableEq

/-- The transfers in the order in which every device issues them. -/
def order : List T :=
  [.z 0, .z 1, .z 2, .z 3, .ring 0 0 0 0, .ring 0 0 0 1, .ring 1 0 0 0, .ring 1 0 0 1,
   .ring 0 0 1 0, .ring 1 0 1 0, .ring 0 1 0 0, .ring 1 1 0 0, .ring 0 0 1 1, .ring 1 0 1 1, .ring 0 1 0 1, .ring 1 1 0 1,
   .res 6,
   .ring 0 1 1 0, .ring 1 1 1 0, .ring 0 1 1 1, .ring 1 1 1 1, .ring 0 2 0 0, .ring 1 2 0 0, .ring 0 2 0 1, .ring 1 2 0 1,
   .ring 0 2 1 0, .ring 1 2 1 0, .ring 0 2 1 1, .ring 1 2 1 1,
   .res 1, .res 4, .res 0, .res 3, .res 2, .res 5]

/-- The order in which every device waits for what it receives. -/
def recvOrder : List T :=
  [.z 0, .z 1, .ring 0 0 0 0, .ring 1 0 0 0, .z 2, .z 3, .ring 0 0 0 1, .ring 1 0 0 1,
   .ring 0 0 1 0, .ring 1 0 1 0, .ring 0 0 1 1, .ring 1 0 1 1, .ring 0 1 0 0, .ring 1 1 0 0, .ring 0 1 0 1, .ring 1 1 0 1,
   .ring 0 1 1 0, .ring 1 1 1 0, .ring 0 1 1 1, .ring 1 1 1 1, .ring 0 2 0 0, .ring 1 2 0 0, .ring 0 2 0 1, .ring 1 2 0 1,
   .ring 0 2 1 0, .ring 1 2 1 0, .ring 0 2 1 1, .ring 1 2 1 1,
   .res 0, .res 1, .res 2, .res 3, .res 4, .res 5, .res 6]

theorem order_nodup : order.Nodup := by decide +kernel
theorem recvOrder_nodup : recvOrder.Nodup := by decide +kernel
theorem mem_order (t : T) : t ∈ order := by
  rcases t with i | ⟨d, h, j, s⟩ | k
  · revert i; decide +kernel
  · revert d h j s; decide +kernel
  · revert k; decide +kernel

instance : Fintype T := ⟨⟨order, order_nodup⟩, mem_order⟩

theorem mem_recvOrder (t : T) : t ∈ recvOrder := by revert t; decide +kernel

/-- The place of a transfer in the order of issue. -/
def rank (t : T) : ℕ := order.idxOf t

/-! ## Devices -/

/-- The device `k` places to the right of `c` in its plane, -/
def same (c : Dev nD) (k : ℕ) : Dev nD := ⟨(c.val / 4 * 4 + (c.val % 4 + k) % 4) % 8, Nat.mod_lt _ (by decide)⟩
/-- and in the other plane. -/
def cross (c : Dev nD) (k : ℕ) : Dev nD := ⟨((1 - c.val / 4) * 4 + (c.val % 4 + k) % 4) % 8, Nat.mod_lt _ (by decide)⟩

/-- The device transfer `t` of device `c` goes to. -/
def tgt : T → Dev nD → Dev nD
  | .z _, c => cross c 0
  | .ring d _ _ _, c => if d = 0 then same c 1 else same c 3
  | .res k, c => if k.val < 3 then same c (3 - k.val) else cross c (6 - k.val)

/-- The device whose transfer `t` comes to `c`. -/
def snd : T → Dev nD → Dev nD
  | .z _, c => cross c 0
  | .ring d _ _ _, c => if d = 0 then same c 3 else same c 1
  | .res k, c => if k.val < 3 then same c (k.val + 1) else cross c (k.val - 2)

theorem snd_tgt (t : T) (c : Dev nD) : snd t (tgt t c) = c := by revert t c; decide +kernel
theorem tgt_snd (t : T) (c : Dev nD) : tgt t (snd t c) = c := by revert t c; decide +kernel
theorem tgt_ne (t : T) (c : Dev nD) : tgt t c ≠ c := by revert t c; decide +kernel

/-- The device whose block of `w` the piece carries when it lands on `c` (of no meaning for `res`). -/
def orig : T → Dev nD → Dev nD
  | .z _, c => cross c 0
  | .ring d h j _, c =>
    if d = 0 then (if j = 0 then same c (3 - h.val) else cross c (3 - h.val))
    else (if j = 0 then same c (h.val + 1) else cross c (h.val + 1))
  | .res _, c => c

/-- The device whose block of `w` the piece carries when `c` sends it. -/
def orig' : T → Dev nD → Dev nD
  | .z _, c => c
  | .ring d h j _, c =>
    if d = 0 then (if j = 0 then same c (4 - h.val) else cross c (4 - h.val))
    else (if j = 0 then same c h.val else cross c h.val)
  | .res _, c => c

/-- The first row of `w` the piece carries. -/
def base : T → ℕ
  | .z i => if i = 0 then 0 else if i = 1 then 2048 else if i = 2 then 1024 else 3072
  | .ring d _ _ s => d.val * 2048 + s.val * 1024
  | .res _ => 0

theorem orig_tgt (t : T) (c : Dev nD) (h : ∀ k, t ≠ .res k) : orig t (tgt t c) = orig' t c := by
  revert t c; decide +kernel

/-- The device at offset `o`, all eight in a circle: the entry handshake runs along these. -/
def off (c : Dev nD) (o : Fin 8) : Dev nD := ⟨(c.val + o.val) % 8, Nat.mod_lt _ (by decide)⟩

theorem off_lt (c : Dev nD) (o : Fin 8) : (off c o).val < 8 := (off c o).isLt

/-! ## Semaphores and cells -/

theorem inb_S4 (i : Fin 4) : ∀ a, (![i.val] : Fin 1 → ℕ) a + S1.size a ≤ S4.size a := by revert i; decide
theorem inb_S7 (i : Fin 7) : ∀ a, (![i.val] : Fin 1 → ℕ) a + S1.size a ≤ S7.size a := by revert i; decide
theorem inb_S322 (h : Fin 3) (j s : Fin 2) : ∀ a, (![h.val, j.val, s.val] : Fin 3 → ℕ) a + S1x1x1.size a ≤ S3x2x2.size a := by
  revert h j s; decide

/-- The semaphore transfer `t` credits on the sender, -/
def sendA : T → DmaSems sig S_
  | .z i => (cc0_scratch6.slice (Rect.unit (s := S4) ![i.val] S1.size (inb_S4 i))).squeeze S_ squeezes_S1_S_
  | .ring d h j s =>
    if d = 0 then (cc0_scratch8.slice (Rect.unit (s := S3x2x2) ![h.val, j.val, s.val] S1x1x1.size (inb_S322 h j s))).squeeze S_ squeezes_S1x1x1_S_
    else (cc0_scratch10.slice (Rect.unit (s := S3x2x2) ![h.val, j.val, s.val] S1x1x1.size (inb_S322 h j s))).squeeze S_ squeezes_S1x1x1_S_
  | .res k => (cc0_scratch12.slice (Rect.unit (s := S7) ![k.val] S1.size (inb_S7 k))).squeeze S_ squeezes_S1_S_
/-- and on the receiver. -/
def recvA : T → DmaSems sig S_
  | .z i => (cc0_scratch7.slice (Rect.unit (s := S4) ![i.val] S1.size (inb_S4 i))).squeeze S_ squeezes_S1_S_
  | .ring d h j s =>
    if d = 0 then (cc0_scratch9.slice (Rect.unit (s := S3x2x2) ![h.val, j.val, s.val] S1x1x1.size (inb_S322 h j s))).squeeze S_ squeezes_S1x1x1_S_
    else (cc0_scratch11.slice (Rect.unit (s := S3x2x2) ![h.val, j.val, s.val] S1x1x1.size (inb_S322 h j s))).squeeze S_ squeezes_S1x1x1_S_
  | .res k => (cc0_scratch13.slice (Rect.unit (s := S7) ![k.val] S1.size (inb_S7 k))).squeeze S_ squeezes_S1_S_

/-- The runtime's barrier semaphore. -/
abbrev barS : Sem sig := (SemArray.scalar (sig.barrier 0 rfl) : Sems sig S_).sem

/-- The kernel's own (scoped) semaphores: `(t, false)` the send semaphore of `t`, `(t, true)` its receive semaphore; -/
def osem (x : T × Bool) : SemLoc sig := if x.2 then .dma (recvA x.1).sem else .dma (sendA x.1).sem
/-- with the barrier, all the semaphores of the exchange. -/
def csem : Option (T × Bool) → SemLoc sig
  | none => .reg barS
  | some x => osem x

theorem osem_inj (x y : T × Bool) (h : osem x = osem y) : x = y := by revert x y; decide +kernel

theorem osem_ne_bar (x : T × Bool) : osem x ≠ .reg barS := by
  unfold osem
  by_cases h : x.2 = true
  · rw [if_pos h]; exact fun h => nomatch h
  · rw [if_neg h]; exact fun h => nomatch h

theorem csem_inj (x y : Option (T × Bool)) (h : csem x = csem y) : x = y := by
  rcases x with _ | x <;> rcases y with _ | y
  · rfl
  · exact absurd h.symm (osem_ne_bar y)
  · exact absurd h (osem_ne_bar x)
  · rw [osem_inj x y h]

abbrev barCell (c : Dev nD) : GSem nD τ sig := ((c : Thread nD τ), .reg barS)
abbrev sendCell (t : T) (c : Dev nD) : GSem nD τ sig := ((c : Thread nD τ), .dma (sendA t).sem)
abbrev recvCell (t : T) (c : Dev nD) : GSem nD τ sig := ((c : Thread nD τ), .dma (recvA t).sem)
abbrev kcell (ck : Dev nD × Option (T × Bool)) : GSem nD τ sig := ((ck.1 : Thread nD τ), csem ck.2)

/-! ## The pieces of the buffers -/

/-- The shape and the element type of what transfer `t` moves. -/
def shp : T → Shape
  | .res _ => S512x256
  | _ => S1024x256
def elt : T → EltTy
  | .res _ => .bf16
  | _ => .fp8e5m2

abbrev xM : Memref sig .tc .vmem S512x4096 .fp8e4m3 := Memref.whole cc0_stg2_0
abbrev wM : Memref sig .tc .vmem S4096x256 .fp8e5m2 := Memref.whole cc0_stg3_0
abbrev outM : Memref sig .tc .vmem S4096x256 .f32 := Memref.whole cc0_stg4_0
abbrev x16M : Memref sig .tc .vmem S512x4096 .bf16 := Memref.whole cc0_scratch0
abbrev mateM : Memref sig .tc .vmem S4096x256 .fp8e5m2 := Memref.whole cc0_scratch1
abbrev cwM : Memref sig .tc .vmem S3x2x2048x256 .fp8e5m2 := Memref.whole cc0_scratch2
abbrev ccwM : Memref sig .tc .vmem S3x2x2048x256 .fp8e5m2 := Memref.whole cc0_scratch3
abbrev resM : Memref sig .tc .vmem S7x512x256 .bf16 := Memref.whole cc0_scratch4
abbrev rcvM : Memref sig .tc .vmem S7x512x256 .bf16 := Memref.whole cc0_scratch5

/-- The landing buffer of the ring in direction `d`. -/
def ringM (d : Fin 2) : Memref sig .tc .vmem S3x2x2048x256 .fp8e5m2 := if d = 0 then cwM else ccwM

theorem base_le (t : T) : base t + 1024 ≤ 4096 := by revert t; decide +kernel
theorem inb_row (t : T) : ∀ a, (![base t, 0] : Fin 2 → ℕ) a + S1024x256.size a ≤ S4096x256.size a := fun a =>
  match a with
  | ⟨0, _⟩ => base_le t
  | ⟨1, _⟩ => Nat.le_refl 256
theorem inb_ring (h : Fin 3) (j s : Fin 2) :
    ∀ a, (![h.val, j.val, s.val * 1024, 0] : Fin 4 → ℕ) a + S1x1x1024x256.size a ≤ S3x2x2048x256.size a := by revert h j s; decide
theorem inb_slot (k : Fin 7) : ∀ a, (![k.val, 0, 0] : Fin 3 → ℕ) a + S1x512x256.size a ≤ S7x512x256.size a := by revert k; decide

abbrev rowR (t : T) : Rect S4096x256 := Rect.unit (s := S4096x256) ![base t, 0] S1024x256.size (inb_row t)
abbrev ringR (h : Fin 3) (j s : Fin 2) : Rect S3x2x2048x256 := Rect.unit (s := S3x2x2048x256) ![h.val, j.val, s.val * 1024, 0] S1x1x1024x256.size (inb_ring h j s)
abbrev slotR (k : Fin 7) : Rect S7x512x256 := Rect.unit (s := S7x512x256) ![k.val, 0, 0] S1x512x256.size (inb_slot k)

/-- Quarter `t` of a whole block of `w`, -/
abbrev rowsOf (M : Memref sig .tc .vmem S4096x256 .fp8e5m2) (t : T) : Memref sig .tc .vmem S1024x256 .fp8e5m2 :=
  M.slice (rowR t) (fun _ => rfl)
/-- one piece of a ring buffer, -/
abbrev ringOf (d : Fin 2) (h : Fin 3) (j s : Fin 2) : Memref sig .tc .vmem S1024x256 .fp8e5m2 :=
  ((ringM d).slice (ringR h j s) (fun _ => rfl)).squeeze S1024x256 squeezes_S1x1x1024x256_S1024x256
/-- one slot of a buffer of result blocks. -/
abbrev slotOf (M : Memref sig .tc .vmem S7x512x256 .bf16) (k : Fin 7) : Memref sig .tc .vmem S512x256 .bf16 :=
  (M.slice (slotR k) (fun _ => rfl)).squeeze S512x256 squeezes_S1x512x256_S512x256

/-- Where transfer `t` lands, -/
def dstM : (t : T) → Memref sig .tc .vmem (shp t) (elt t)
  | .z i => rowsOf mateM (.z i)
  | .ring d h j s => ringOf d h j s
  | .res k => slotOf rcvM k
/-- and what it reads. -/
def srcM : (t : T) → Memref sig .tc .vmem (shp t) (elt t)
  | .z i => rowsOf wM (.z i)
  | .ring d 0 0 s => rowsOf wM (.ring d 0 0 s)
  | .ring d 0 1 s => rowsOf mateM (.ring d 0 1 s)
  | .ring d 1 j s => ringOf d 0 j s
  | .ring d 2 j s => ringOf d 1 j s
  | .res k => slotOf resM k

/-- The units a transfer credits. -/
def amt (t : T) : ℕ := (dstM t).view.dmaCredit
theorem amt_pos : (t : T) → 0 < amt t
  | .z _ => View.dmaCredit_pos _ (by show 0 < S1024x256.numel; decide)
  | .ring _ _ _ _ => View.dmaCredit_pos _ (by show 0 < S1024x256.numel; decide)
  | .res _ => View.dmaCredit_pos _ (by show 0 < S512x256.numel; decide)

end Cert.MM
-- ==== Proof.Sched.lean ====
/-
# What the pieces hold, and the schedule of the semaphores

`W c`, `X c` are what device `c` has staged of `w` and of `x`; every piece that travels is a stretch of rows of some
device's `W` or a finished block `resV`. From these: what each transfer reads and leaves behind (`srcP`, `landP`), the
schedule of the semaphore cells over the rounds library — one round per cell; a barrier cell has seven duties, one per
other device, and each hands over the places on that device which the owner will write to —, the levels that order the
waits, and what each device owes.
-/
module

public import proofs.«01_k».proof.Proof.Plan
public import Idealize.ShloMosaic.Lib.ValueLayout

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The resources: the pipeline's and those of the exchange, whose duties are named by offsets. -/
abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A product regrouped by the value of a function. -/
theorem group_by {I J : Type} [DecidableEq I] [Fintype J] [DecidableEq J] (s : Finset I) (f : I → J) (Φ : I → sProp 𝕄) :
    bigSep s Φ = bigSep Finset.univ fun j => bigSep s fun i => if f i = j then Φ i else iprop(emp) := by
  induction s using Finset.induction_on with
  | empty => rw [bigSep_congr (fun j _ => bigSep_empty), bigSep_empty]; exact (bigSep_emp_const _).symm
  | insert i s hi ih =>
    rw [bigSep_insert hi, ih, bigSep_congr (fun j _ => bigSep_insert hi), bigSep_sep]
    congr 1
    have e := bigSep_filter (M := 𝕄) Finset.univ (fun j => f i = j) (fun _ => Φ i)
    rw [Finset.filter_eq, if_pos (Finset.mem_univ _), bigSep_singleton] at e
    exact e

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- What device `c` stages: the two scales, its rows of `x`, its columns of `w`. -/
def SX (c : Dev nD) : S1.Idx → Elt F .f32 := (win0_0.blk (0 : Fin 1)).view.read (Elt F) ((s₀ m ρ).mem ((c : Thread nD τ).loc main_arg2))
def SW (c : Dev nD) : S1.Idx → Elt F .f32 := (win0_1.blk (0 : Fin 1)).view.read (Elt F) ((s₀ m ρ).mem ((c : Thread nD τ).loc main_arg3))
def X (c : Dev nD) : S512x4096.Idx → Elt F .fp8e4m3 := (win0_2.blk (0 : Fin 1)).view.read (Elt F) ((s₀ m ρ).mem ((c : Thread nD τ).loc main_arg0))
def W (c : Dev nD) : S4096x256.Idx → Elt F .fp8e5m2 := (win0_3.blk (0 : Fin 1)).view.read (Elt F) ((s₀ m ρ).mem ((c : Thread nD τ).loc main_arg1))

/-- The product of the two scales. -/
def sc (c : Dev nD) : F .f32 := k0_pay1 (SX m ρ c (ix1 0)) (SW m ρ c (ix1 0))
/-- The rows of `x` in bf16. -/
def x16V (c : Dev nD) : S512x4096.Idx → Elt F .bf16 := k0_pay3 (k0_pay2 (X m ρ c))

/-- Row `b + r` of a block of `w`, an index. -/
abbrev row (b : ℕ) (r : ℕ) : Fin 4096 := ⟨(b + r) % 4096, Nat.mod_lt _ (by decide)⟩

/-- 1024 rows of device `e`'s block of `w`, from row `b` on; -/
def wblk (e : Dev nD) (b : ℕ) : S1024x256.Idx → Elt F .fp8e5m2 := fun x => W m ρ e (ix2 (row b (x 0).val) (x 1))
/-- 2048 rows. -/
def whalf (e : Dev nD) (b : ℕ) : S2048x256.Idx → Elt F .fp8e5m2 := fun x => W m ρ e (ix2 (row b (x 0).val) (x 1))

/-- The left and right halves of the rows of `x`. -/
def xl (c : Dev nD) : S512x2048.Idx → Elt F .bf16 := fun x => x16V m ρ c (ix2 (x 0) (row 0 (x 1).val))
def xr (c : Dev nD) : S512x2048.Idx → Elt F .bf16 := fun x => x16V m ρ c (ix2 (x 0) (row 2048 (x 1).val))

/-- The block of the product that `c` computes for `e`, with a leading axis of one and without. -/
def res3 (c e : Dev nD) : S1x512x256.Idx → Elt F .bf16 := k0_pay5 (sc m ρ c) (whalf m ρ e 0) (whalf m ρ e 2048) (xl m ρ c) (xr m ρ c)
def resV (c e : Dev nD) : S512x256.Idx → Elt F .bf16 := fun x => res3 m ρ c e (ix3 0 (x 0) (x 1))

/-- What transfer `t` of device `c` reads, -/
def valS : (t : T) → Dev nD → (shp t).Idx → Elt F (elt t)
  | .res k, c => resV m ρ c (tgt (.res k) c)
  | .z i, c => wblk m ρ (orig' (.z i) c) (base (.z i))
  | .ring d h j s, c => wblk m ρ (orig' (.ring d h j s) c) (base (.ring d h j s))
/-- and what has landed on `c` when it is done. -/
def valD : (t : T) → Dev nD → (shp t).Idx → Elt F (elt t)
  | .res k, c => resV m ρ (snd (.res k) c) c
  | .z i, c => wblk m ρ (orig (.z i) c) (base (.z i))
  | .ring d h j s, c => wblk m ρ (orig (.ring d h j s) c) (base (.ring d h j s))

omit [FloatOps F] in
theorem valD_tgt [FloatOps F] : (t : T) → (c : Dev nD) → valD m ρ t (tgt t c) = valS m ρ t c
  | .res k, c => by show resV m ρ (snd (.res k) (tgt (.res k) c)) _ = resV m ρ c _; rw [snd_tgt]
  | .z i, c => by show wblk m ρ (orig (.z i) (tgt (.z i) c)) _ = wblk m ρ (orig' (.z i) c) _; rw [orig_tgt _ _ (fun k h => by cases h)]
  | .ring d h j s, c => by
    show wblk m ρ (orig (.ring d h j s) (tgt (.ring d h j s) c)) _ = wblk m ρ (orig' (.ring d h j s) c) _
    rw [orig_tgt _ _ (fun k h => by cases h)]

/-! ## The assertions that travel -/

/-- The share of the source a transfer takes with it, -/
def shS : T → PosShare TreeShare
  | .z _ => fullShare.left
  | .ring _ 0 0 _ => fullShare.right.left
  | .ring _ _ _ _ => fullShare.left
  | .res _ => fullShare
/-- and the share of what landed that stays when the next hop takes its own. -/
def shK : T → PosShare TreeShare
  | .z _ => fullShare.right
  | .ring _ 2 _ _ => fullShare
  | .ring _ _ _ _ => fullShare.right
  | .res _ => fullShare

/-- What transfer `t` of `c` reads from, at its share; -/
def srcP (t : T) (c : Dev nD) : sProp 𝕄 := owns (c : Thread nD τ) (srcM t) (shS t) (valS m ρ t c)
/-- the place on `e` where transfer `t` lands, whatever it holds; -/
def freeP (t : T) (e : Dev nD) : sProp 𝕄 := iprop(∃ X, owns (e : Thread nD τ) (dstM t) fullShare (X : (shp t).Idx → Elt F (elt t)))
/-- that place when it has landed; -/
def landP (t : T) (e : Dev nD) : sProp 𝕄 := owns (e : Thread nD τ) (dstM t) fullShare (valD m ρ t e)
/-- and what stays of that when the next hop has taken its share. -/
def keepP (t : T) (e : Dev nD) : sProp 𝕄 := owns (e : Thread nD τ) (dstM t) (shK t) (valD m ρ t e)

omit [FloatOps F] in
instance freeP_storable (t : T) (e : Dev nD) : BI.Storable (upEmb : UEmb _ 𝕄) (freeP (F := F) t e) := by unfold freeP; infer_instance
instance srcP_storable (t : T) (e : Dev nD) : BI.Storable (upEmb : UEmb _ 𝕄) (srcP m ρ t e) := by unfold srcP; infer_instance
instance landP_storable (t : T) (e : Dev nD) : BI.Storable (upEmb : UEmb _ 𝕄) (landP m ρ t e) := by unfold landP; infer_instance

/-! ## The schedule -/

/-- The offset from `a` to `b` in the circle of eight. -/
def ofs (a b : Dev nD) : Fin 8 := ⟨(b.val + 8 - a.val) % 8, Nat.mod_lt _ (by decide)⟩

theorem ofs_zero (a b : Dev nD) : ofs a b = 0 ↔ a = b := by revert a b; decide +kernel

theorem ofs_off (c : Dev nD) (o : Fin 8) : ofs c (off c o) = o := by revert c o; decide +kernel
theorem off_ofs (c e : Dev nD) (o : Fin 8) (h : ofs c e = o) : off c o = e := by revert c e o; decide +kernel
theorem ofs_off_inj (a c : Dev nD) (o : Fin 8) (h : ofs a (off c o) = o) : a = c := by revert a c o; decide +kernel

/-- What the duty at offset `o` of `e`'s barrier cell hands over: the places on the device `o` before `e` that `e` writes to. -/
def barPay (e : Dev nD) (o : Fin 8) : sProp 𝕄 :=
  bigSep Finset.univ fun t => if ofs (tgt t e) e = o then freeP (F := F) t (tgt t e) else iprop(emp)

omit [FloatOps F] in
instance barPay_storable (e : Dev nD) (o : Fin 8) : BI.Storable (upEmb : UEmb _ 𝕄) (barPay (F := F) e o) := by
  unfold barPay
  have : ∀ t, BI.Storable (upEmb : UEmb _ 𝕄) (if ofs (tgt t e) e = o then freeP (F := F) t (tgt t e) else iprop(emp)) := fun t => by
    split <;> infer_instance
  infer_instance

open Classical in
/-- Which semaphore of the exchange a location is. -/
def kindOf (s : SemLoc sig) : Option (Option (T × Bool)) := if h : ∃ k, csem k = s then some h.choose else none

theorem kindOf_csem (k : Option (T × Bool)) : kindOf (csem k) = some k := by
  unfold kindOf
  have h : ∃ k', csem k' = csem k := ⟨k, rfl⟩
  rw [dif_pos h, csem_inj _ _ h.choose_spec]
theorem kindOf_bar : kindOf (.reg barS) = some none := kindOf_csem none
theorem kindOf_send (t : T) : kindOf (.dma (sendA t).sem) = some (some (t, false)) := kindOf_csem (some (t, false))
theorem kindOf_recv (t : T) : kindOf (.dma (recvA t).sem) = some (some (t, true)) := kindOf_csem (some (t, true))

def dutiesOf : Option (Option (T × Bool)) → Finset (Fin 8)
  | some none => Finset.univ.erase 0
  | some (some _) => {0}
  | none => ∅
def amountOf' : Option (Option (T × Bool)) → ℕ
  | some (some x) => amt x.1
  | _ => 1
def payOf (e : Dev nD) (d : Fin 8) : Option (Option (T × Bool)) → sProp 𝕄
  | some none => barPay e d
  | some (some (t, false)) => srcP m ρ t e
  | some (some (t, true)) => landP m ρ t e
  | none => iprop(emp)

/-- One round per cell: a barrier cell has the seven duties of one unit, a send or receive cell the one duty of the
    transfer's units. -/
def Rd : Rounds.Schedule (GSem nD τ sig) (Fin 8) 𝕄 where
  duties g r := if r = 0 ∧ g.1.2 = .tc then dutiesOf (kindOf g.2) else ∅
  unitless _ := False
  amount g _ _ := amountOf' (kindOf g.2)
  payload g _ d := payOf m ρ g.1.1 d (kindOf g.2)
  amount_pos g _ _ _ := by
    rcases kindOf g.2 with _ | _ | x
    · exact Nat.one_pos
    · exact Nat.one_pos
    · exact amt_pos x.1

instance Rd_payload_storable (g : GSem nD τ sig) (r : ℕ) (d : Fin 8) :
    BI.Storable (upEmb : UEmb _ 𝕄) ((Rd (F := F) m ρ).payload g r d) := by
  show BI.Storable upEmb (payOf m ρ g.1.1 d (kindOf g.2))
  rcases kindOf g.2 with _ | _ | ⟨t, _ | _⟩ <;> (unfold payOf; infer_instance)

section Tables
variable (t : T) (c : Dev nD)

theorem duties_bar : (Rd (F := F) m ρ).duties (barCell c) 0 = Finset.univ.erase 0 := by
  dsimp only [Rd]; rw [if_pos ⟨rfl, rfl⟩, kindOf_bar]; rfl
theorem duties_send : (Rd (F := F) m ρ).duties (sendCell t c) 0 = {0} := by
  dsimp only [Rd]; rw [if_pos ⟨rfl, rfl⟩, kindOf_send]; rfl
theorem duties_recv : (Rd (F := F) m ρ).duties (recvCell t c) 0 = {0} := by
  dsimp only [Rd]; rw [if_pos ⟨rfl, rfl⟩, kindOf_recv]; rfl
theorem duties_later (g : GSem nD τ sig) : ∀ r, 1 ≤ r → (Rd (F := F) m ρ).duties g r = ∅ :=
  fun r hr => by dsimp only [Rd]; exact if_neg fun h => by omega
theorem amount_bar (d : Fin 8) : (Rd (F := F) m ρ).amount (barCell c) 0 d = 1 := by
  dsimp only [Rd]; rw [kindOf_bar]; rfl
theorem amount_send (d : Fin 8) : (Rd (F := F) m ρ).amount (sendCell t c) 0 d = amt t := by
  dsimp only [Rd]; rw [kindOf_send]; rfl
theorem amount_recv (d : Fin 8) : (Rd (F := F) m ρ).amount (recvCell t c) 0 d = amt t := by
  dsimp only [Rd]; rw [kindOf_recv]; rfl
theorem expect_bar : (Rd (F := F) m ρ).expect (barCell c) 0 = 7 := by
  unfold Schedule.expect Schedule.amountOf
  rw [duties_bar, Finset.sum_congr rfl fun d _ => amount_bar m ρ c d, Finset.sum_const]; decide
theorem expect_send : (Rd (F := F) m ρ).expect (sendCell t c) 0 = amt t := by
  unfold Schedule.expect Schedule.amountOf; rw [duties_send, Finset.sum_singleton, amount_send]
theorem expect_recv : (Rd (F := F) m ρ).expect (recvCell t c) 0 = amt t := by
  unfold Schedule.expect Schedule.amountOf; rw [duties_recv, Finset.sum_singleton, amount_recv]
theorem payload_bar (d : Fin 8) : (Rd (F := F) m ρ).payload (barCell c) 0 d = barPay c d := by
  dsimp only [Rd]; rw [kindOf_bar]; rfl
theorem payload_send (d : Fin 8) : (Rd (F := F) m ρ).payload (sendCell t c) 0 d = srcP m ρ t c := by
  dsimp only [Rd]; rw [kindOf_send]; rfl
theorem payload_recv (d : Fin 8) : (Rd (F := F) m ρ).payload (recvCell t c) 0 d = landP m ρ t c := by
  dsimp only [Rd]; rw [kindOf_recv]; rfl
theorem rest_send : bigSep ((Rd (F := F) m ρ).duties (sendCell t c) 0 \ ∅) (fun d => (Rd (F := F) m ρ).payload (sendCell t c) 0 d) = srcP m ρ t c := by
  rw [Finset.sdiff_empty, duties_send, bigSep_singleton, payload_send]
theorem rest_recv : bigSep ((Rd (F := F) m ρ).duties (recvCell t c) 0 \ ∅) (fun d => (Rd (F := F) m ρ).payload (recvCell t c) 0 d) = landP m ρ t c := by
  rw [Finset.sdiff_empty, duties_recv, bigSep_singleton, payload_recv]

/-- The whole of a barrier cell's round: every place on another device that `c` writes to. -/
theorem rest_bar : bigSep ((Rd (F := F) m ρ).duties (barCell c) 0 \ ∅) (fun d => (Rd (F := F) m ρ).payload (barCell c) 0 d)
    = bigSep Finset.univ fun t => freeP (F := F) t (tgt t c) := by
  rw [Finset.sdiff_empty, duties_bar, group_by Finset.univ (fun t => ofs (tgt t c) c) (fun t => freeP (F := F) t (tgt t c)),
    bigSep_erase (Finset.mem_univ (0 : Fin 8)),
    show (bigSep Finset.univ fun t => if ofs (tgt t c) c = 0 then freeP (F := F) t (tgt t c) else iprop(emp)) = iprop(emp) from
      (bigSep_congr fun t _ => if_neg fun h => tgt_ne t c ((ofs_zero _ _).mp h)).trans (bigSep_emp_const _)]
  rw [bigSep_congr fun d _ => payload_bar m ρ c d]
  exact (BI.equiv_iff.mp emp_sep).symm

/-- What `c` hands over with its signal at offset `o`: its own places that the device there writes to. -/
theorem barPay_off (o : Fin 8) : barPay (F := F) (off c o) o = bigSep Finset.univ fun t => if ofs c (snd t c) = o then freeP (F := F) t c else iprop(emp) := by
  unfold barPay
  refine bigSep_congr fun t _ => ?_
  by_cases h : tgt t (off c o) = c
  · have h1 : snd t c = off c o := by rw [← h, snd_tgt, h]
    rw [h, h1, ofs_off, if_pos rfl]
  · rw [if_neg (fun h' => h (ofs_off_inj _ _ _ h')), if_neg (fun h' => h ?_)]
    rw [off_ofs c _ _ h', tgt_snd]

end Tables

/-! ## Levels, and what is owed -/

def L (g : GSem nD τ sig) : Finset Unit := if g.1.2 = .tc then {()} else ∅
/-- Barrier cells at 1, receive cells above them in the order of issue, everything else at 0. -/
def lvOf : Option (Option (T × Bool)) → ℕ
  | some none => 1
  | some (some (t, true)) => 2 + rank t
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kindOf_bar]; rfl
theorem lv_recv (t : T) (c : Dev nD) (u : Unit) : lv (recvCell t c) u = 2 + rank t := by unfold lv; rw [kindOf_recv]; rfl

/-- What `c` owes for the transfers of a list: their units on their targets' receive cells, the first of the list last. -/
def oweL (c : Dev nD) : List T → CellTallies nD τ sig Unit
  | [] => 0
  | t :: l => oweL c l + tallyAt (recvCell t (tgt t c)) () (amt t)
/-- The same with the signals at the offsets of a list on top. -/
def oweB (c : Dev nD) : List (Fin 8) → CellTallies nD τ sig Unit
  | [] => oweL c order
  | o :: l => oweB c l + tallyAt (barCell (off c o)) () 1

/-- The offsets in the order of the signals. -/
def offs : List (Fin 8) := [1, 2, 3, 4, 5, 6, 7]

theorem oweL_pos {c : Dev nD} {g : GSem nD τ sig} {u : Unit} : ∀ {l : List T}, 0 < oweL c l g u → ∃ t ∈ l, g = recvCell t (tgt t c)
  | [], h => absurd h (by show ¬ 0 < (0 : CellTallies nD τ sig Unit) g u; simp)
  | t :: l, h => by
    unfold oweL at h
    rw [Pi.add_apply, Finsupp.add_apply, tallyAt_apply] at h
    by_cases hg : g = recvCell t (tgt t c) ∧ u = ()
    · exact ⟨t, List.mem_cons_self, hg.1⟩
    · rw [if_neg hg] at h
      obtain ⟨t', ht', e⟩ := oweL_pos (l := l) h
      exact ⟨t', List.mem_cons_of_mem _ ht', e⟩
theorem oweB_pos {c : Dev nD} {g : GSem nD τ sig} {u : Unit} : ∀ {l : List (Fin 8)}, 0 < oweB c l g u →
    (∃ t, g = recvCell t (tgt t c)) ∨ ∃ e, g = barCell e
  | [], h => by obtain ⟨t, _, e⟩ := oweL_pos h; exact .inl ⟨t, e⟩
  | o :: l, h => by
    unfold oweB at h
    rw [Pi.add_apply, Finsupp.add_apply, tallyAt_apply] at h
    by_cases hg : g = barCell (off c o) ∧ u = ()
    · exact .inr ⟨_, hg.1⟩
    · rw [if_neg hg] at h; exact oweB_pos (l := l) h

/-- A wait on a cell at level `n` is allowed while what is owed for transfers lies above. -/
theorem mayWait_oweL (c : Dev nD) (sm : SemLoc sig) (n : ℕ) (hn : lv ((c : Thread nD τ), sm) () ≤ n) (l : List T) (hl : ∀ t ∈ l, n < 2 + rank t) :
    (levAts L lv : sProp 𝕄) ⊢ MayWait (c : Thread nD τ) sm () (oweL c l) :=
  MayOwe.of_cut (L := L) (lev := lv) n (fun p hp => by rw [Finset.mem_singleton.mp hp, L_tc]; exact Finset.mem_singleton_self _)
    (fun g u hg => by obtain ⟨t, _, rfl⟩ := oweL_pos hg; exact Finset.mem_singleton_self _)
    (fun p hp => by rw [Finset.mem_singleton.mp hp]; exact hn)
    (fun g u hg => by obtain ⟨t, ht, rfl⟩ := oweL_pos hg; rw [lv_recv]; exact hl t ht)

/-- A wait on a cell at level 0 is allowed before the first signal. -/
theorem mayWait_oweB (c : Dev nD) (sm : SemLoc sig) (hn : lv ((c : Thread nD τ), sm) () ≤ 0) (l : List (Fin 8)) :
    (levAts L lv : sProp 𝕄) ⊢ MayWait (c : Thread nD τ) sm () (oweB c l) :=
  MayOwe.of_cut (L := L) (lev := lv) 0 (fun p hp => by rw [Finset.mem_singleton.mp hp, L_tc]; exact Finset.mem_singleton_self _)
    (fun g u hg => by rcases oweB_pos hg with ⟨t, rfl⟩ | ⟨e, rfl⟩ <;> exact Finset.mem_singleton_self _)
    (fun p hp => by rw [Finset.mem_singleton.mp hp]; exact hn)
    (fun g u hg => by
      rcases oweB_pos hg with ⟨t, rfl⟩ | ⟨e, rfl⟩
      · rw [lv_recv]; omega
      · rw [lv_bar]; exact Nat.one_pos)

end Cert.MM
-- ==== Proof.Steps.lean ====
/-
# The steps of the protocol

`St K c n r s P R` is what device `c` holds after it issued `n` transfers, waited for `r` of the incoming ones and for
`s` of its own: `P` lists the transfers whose source is in its hands, `R` is whatever else it holds. Each theorem here
is one effect of the program: it reduces the program from there on at the state before to the same at the state after.
-/
module

public import proofs.«01_k».proof.Proof.Sched

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Assertions over a list -/

section Stars
variable {ι : Type}

theorem eq_of_entails {A B : sProp 𝕄} (h : A ⊢ B) (h' : B ⊢ A) : A = B := Entails.antisymm h h'

theorem eq_of_equiv {A B : sProp 𝕄} (h : A ⊣⊢ B) : A = B := Entails.antisymm h.1 h.2

/-- One copy of `Φ` for each entry of a list. -/
def stars (Φ : ι → sProp 𝕄) : List ι → sProp 𝕄
  | [] => iprop(emp)
  | t :: l => iprop(Φ t ∗ stars Φ l)

theorem stars_cons (Φ : ι → sProp 𝕄) (t : ι) (l : List ι) : stars Φ (t :: l) = iprop(Φ t ∗ stars Φ l) := rfl

theorem stars_append (Φ : ι → sProp 𝕄) (l l' : List ι) : stars Φ (l ++ l') = iprop(stars Φ l ∗ stars Φ l') := by
  induction l with
  | nil => exact (BI.equiv_iff.mp emp_sep).symm
  | cons t l ih => rw [List.cons_append, stars_cons, stars_cons, ih]; exact (eq_of_equiv Laws.sep_assoc).symm

theorem stars_perm (Φ : ι → sProp 𝕄) {l l' : List ι} (h : l.Perm l') : stars Φ l = stars Φ l' := by
  induction h with
  | nil => rfl
  | cons t _ ih => rw [stars_cons, stars_cons, ih]
  | swap t u l =>
    simp only [stars_cons]
    exact eq_of_equiv sep_left_comm
  | trans _ _ ih ih' => exact ih.trans ih'

/-- One entry taken out. -/
theorem stars_erase [DecidableEq ι] (Φ : ι → sProp 𝕄) {t : ι} {l : List ι} (h : t ∈ l) : stars Φ l = iprop(Φ t ∗ stars Φ (l.erase t)) :=
  (stars_perm Φ (List.perm_cons_erase h)).trans (stars_cons Φ t _)

theorem stars_eq_bigSep [DecidableEq ι] (Φ : ι → sProp 𝕄) : (l : List ι) → l.Nodup → stars Φ l = bigSep l.toFinset Φ
  | [], _ => bigSep_empty.symm
  | t :: l, h => by
    rw [stars_cons, stars_eq_bigSep Φ l (List.nodup_cons.mp h).2, List.toFinset_cons,
      bigSep_insert fun h' => (List.nodup_cons.mp h).1 (List.mem_toFinset.mp h')]; rfl

/-- A product over all of a type along a list that names each once. -/
theorem stars_univ [DecidableEq ι] [Fintype ι] (Φ : ι → sProp 𝕄) (l : List ι) (h : l.Nodup) (h' : ∀ t, t ∈ l) :
    bigSep Finset.univ Φ = stars Φ l := by
  rw [stars_eq_bigSep Φ l h]; congr 1; exact (Finset.eq_univ_iff_forall.mpr fun t => List.mem_toFinset.mpr (h' t)).symm

end Stars

/-! ## The state -/

/-- The cells' invariants under the names `K`, and that every cell has reached round 0. -/
def recs (K : Dev nD × Option (T × Bool) → ℕ) : sProp 𝕄 :=
  bigSep Finset.univ fun ck => iprop(cellInv ER (Rd (F := F) m ρ) (K ck) (kcell ck) ∗ reached ER (kcell ck) 0)

instance recs_persistent (K : Dev nD × Option (T × Bool) → ℕ) : BI.Persistent (recs (F := F) m ρ K) := by unfold recs; infer_instance

theorem recs_at (K : Dev nD × Option (T × Bool) → ℕ) (ck : Dev nD × Option (T × Bool)) :
    recs (F := F) m ρ K ⊢ iprop(cellInv ER (Rd (F := F) m ρ) (K ck) (kcell ck) ∗ reached ER (kcell ck) 0) :=
  bigSep_elim (Finset.mem_univ ck)

/-- What remains of the protocol after `n` issues, `r` receptions and `s` waits for own transfers. -/
def Core (c : Dev nD) (n r s : ℕ) (P : List T) : sProp 𝕄 :=
  iprop(stars (fun t => iprop(dutyTok ER (sendCell t c) 0 (0 : Fin 8) ∗ dutyTok ER (recvCell t (tgt t c)) 0 (0 : Fin 8))) (order.drop n)
    ∗ stars (fun t => cred (tallyAt (sendCell t c) () (amt t))) ((order.take n).drop s)
    ∗ stars (fun t => iprop(atPos ER (recvCell t c) 0 (∅ : Finset (Fin 8)) 0 ∗ cred (tallyAt (recvCell t c) () (amt t)))) (recvOrder.drop r)
    ∗ stars (fun t => semVal (recvCell t c) 0) (recvOrder.take r)
    ∗ stars (fun t => atPos ER (sendCell t c) 0 (∅ : Finset (Fin 8)) 0) (order.drop s)
    ∗ stars (fun t => semVal (sendCell t c) 0) (order.take s)
    ∗ stars (fun t => srcP m ρ t c) P
    ∗ stars (fun t => keepP m ρ t c) (recvOrder.take r))

/-- The state after the entry handshake, -/
def St (K : Dev nD × Option (T × Bool) → ℕ) (c : Dev nD) (n r s : ℕ) (P : List T) (R : sProp 𝕄) : sProp 𝕄 :=
  iprop(levAts L lv ∗ recs m ρ K ∗ (∃ V, owes (c : Thread nD τ) (oweL c (order.drop n)) V)
    ∗ stars (fun t => freeP t (tgt t c)) (order.drop n) ∗ Core m ρ c n r s P ∗ R)

/-- and during it, the signals at the offsets `os` still to come. -/
def Bar (K : Dev nD × Option (T × Bool) → ℕ) (c : Dev nD) (os : List (Fin 8)) (R : sProp 𝕄) : sProp 𝕄 :=
  iprop(levAts L lv ∗ recs m ρ K ∗ (∃ V, owes (c : Thread nD τ) (oweB c os) V)
    ∗ stars (fun o => iprop(dutyTok ER (barCell (off c o)) 0 o ∗ barPay (off c o) o)) os
    ∗ atPos ER (barCell c) 0 (∅ : Finset (Fin 8)) 0 ∗ cred (tallyAt (barCell c) () 7) ∗ R)

abbrev 𝒱₀ : Variants := Variants.none

/-- The next transfer that reads from where `t` lands. -/
def nxt : T → List T
  | .z 0 => [.ring 0 0 1 0]
  | .z 1 => [.ring 1 0 1 0]
  | .z 2 => [.ring 0 0 1 1]
  | .z 3 => [.ring 1 0 1 1]
  | .ring d 0 j s => [.ring d 1 j s]
  | .ring d 1 j s => [.ring d 2 j s]
  | .ring _ 2 _ _ => []
  | .res _ => []

section Steps

variable {m ρ}
variable {K : Dev nD × Option (T × Bool) → ℕ} {c : Dev nD} {n r s : ℕ} {P : List T}
variable {R : sProp (MT nD τ sig Unit (Elt F) ℕ UU ℕ)}
variable {α : Type} {Q : α → sProp (MT nD τ sig Unit (Elt F) ℕ UU ℕ)} {Q₀ : sProp (MT nD τ sig Unit (Elt F) ℕ UU ℕ)}

/-- A signal of the entry handshake. -/
theorem signal_step {o : Fin 8} {os : List (Fin 8)} {e : Dev nD} (he : e = off c o) (ho : o ≠ 0) {k' : ℕ} (hk' : 1 = k')
    {k : PUnit → Prog (TpuEff nD τ sig (Elt F) Λ₀ .tc) α}
    (hk : Bar m ρ K c os R ⊢ wp frame (wpE (defs₀ (F := F)) 𝒱₀ (c : Thread nD τ) none) Set.univ (k ⟨⟩) Q) :
    Bar m ρ K c (o :: os) R ⊢ wp frame (wpE (defs₀ (F := F)) 𝒱₀ (c : Thread nD τ) none) Set.univ
      (.op (.semSignal (Dev.tc e : Thread nD τ) barS k') k) Q := by
  subst he
  subst hk'
  unfold Bar
  rw [stars_cons]
  iintro ⟨#Hl, #Hr, ⟨%V, HO⟩, ⟨⟨Ht, Hp⟩, Hs⟩, Ha, Hc, HR⟩
  ihave Hi := (recs_at m ρ K (off c o, none)) $$ Hr
  icases Hi with ⟨#Hi, #Hre⟩
  iapply (Rounds.wp_signal 𝒱₀ ER (Rd m ρ) (c : Thread nD τ) none (dst := (off c o : Thread nD τ)) (κ := K (off c o, none))
      (r := 0) (d := o) (by rw [duties_bar]; exact Finset.mem_erase.mpr ⟨ho, Finset.mem_univ _⟩) (amount_bar m ρ (off c o) o) () (oweB c os) rfl)
    $$ [HO Ht Hp]
  · isplitr; · iexact Hi
    isplitl [HO]; · iexact HO
    isplitl [Ht]; · iexact Ht
    isplitl [Hp]; · rw [payload_bar]; iexact Hp
    iexact Hre
  iintro HO
  iapply hk
  unfold Bar
  isplitr; · iexact Hl
  isplitr; · iexact Hr
  isplitl [HO]; · iexists V; iexact HO
  isplitl [Hs]; · iexact Hs
  isplitl [Ha]; · iexact Ha
  isplitl [Hc] <;> iassumption

/-- The wait that ends it: every place on another device that `c` writes to is `c`'s. -/
theorem bar_step {k' : ℕ} (hk' : 7 = k') {k : PUnit → Prog (TpuEff nD τ sig (Elt F) Λ₀ .tc) α}
    (hk : St m ρ K c 0 r s P iprop(semVal (barCell c) 0 ∗ R) ⊢ wp frame (wpE (defs₀ (F := F)) 𝒱₀ (c : Thread nD τ) none) Set.univ (k ⟨⟩) Q) :
    Bar m ρ K c [] iprop(Core m ρ c 0 r s P ∗ R) ⊢ wp frame (wpE (defs₀ (F := F)) 𝒱₀ (c : Thread nD τ) none) Set.univ
      (.op (.semWait barS k') k) Q := by
  subst hk'
  unfold Bar
  iintro ⟨#Hl, #Hr, ⟨%V, HO⟩, -, Ha, Hc, HC, HR⟩
  ihave Hi := (recs_at m ρ K (c, none)) $$ Hr
  icases Hi with ⟨#Hi, #Hre⟩
  iapply (Rounds.wp_wait_rest_token 𝒱₀ ER (Rd m ρ) (c : Thread nD τ) none (κ := K (c, none))
      (wpE_semWait_eq 𝒱₀ (c : Thread nD τ) none Set.univ) (Set.mem_univ _) () (O := oweL c order) (W := V) (R := 0) (m := 0) (T := ∅)
      (by rw [expect_bar])) $$ [Hc HO Ha]
  · isplitr; · iexact Hi
    isplitl [Hc]; · iexact Hc
    isplitl [HO]; · iexact HO
    isplitr
    · iapply (mayWait_oweL c (.reg barS) 1 (lv_bar c ()).le order (fun t _ => by omega)); iexact Hl
    iexact Ha
  iintro ⟨HO, Ha, -, Hp⟩
  ihave Hf := (Entails.of_eq ((rest_bar m ρ c).trans (stars_univ _ order order_nodup mem_order))) $$ Hp
  imod (Rounds.cell_close ER (Rd m ρ) (Set.mem_univ (K (c, none))) (fun h => h) (R := 0 + 1) (duties_later m ρ (barCell c))) $$ [Ha] with Hz
  · isplitr; · iexact Hi
    iexact Ha
  iapply hk
  unfold St
  isplitr; · iexact Hl
  isplitr; · iexact Hr
  isplitl [HO]; · iexists _; iexact HO
  isplitl [Hf]; · iexact Hf
  isplitl [HC]; · iexact HC
  isplitl [Hz] <;> iassumption

omit [FloatOps F] in
/-- A place to write to is its elements at some contents. -/
theorem freeP_pts (t : T) (e : Dev nD) : freeP t e
    ⊢ (iprop(∃ f, ((dstM t).view.loc (e : Thread nD τ) ↦[(dstM t).view.set]{fullShare} f)) : sProp (MT nD τ sig Unit (Elt F) ℕ UU ℕ)) := by
  unfold freeP owns
  iintro ⟨%X, %f, %hf, H⟩
  iexists f
  iexact H

theorem srcP_send (t : T) (fd : Buf (Elt F) ((dstM t).view.loc (tgt t c : Thread nD τ)))
    (fs : Buf (Elt F) ((srcM t).view.loc (c : Thread nD τ))) (h : (srcM t).view.read (Elt F) fs = valS m ρ t c) :
    ((dstM t).view.loc (tgt t c : Thread nD τ) ↦[(dstM t).view.set]{fullShare} ((dstM t).view.write (Elt F) fd ((srcM t).view.read (Elt F) fs) Finset.univ))
      ⊢ (landP m ρ t (tgt t c) : sProp 𝕄) := by
  unfold landP
  refine (owns_intro (tgt t c : Thread nD τ) (dstM t) fullShare _).trans (Entails.of_eq ?_)
  congr 1
  rw [valD_tgt, ← h]
  funext x
  exact View.read_write_of_mem _ _ (Finset.mem_univ x)

/-- A transfer is issued: its source and the place it goes to leave, what is owed for it is paid. -/
theorem send_step (ec : Dev nD → ℕ) (hec : ∀ c, ec c < nD) (t : T) (he : ∀ c, (⟨ec c, hec c⟩ : Dev nD) = tgt t c) (hn : order.drop n = t :: order.drop (n + 1))
    (ht : (order.take (n + 1)).drop s = (order.take n).drop s ++ [t]) (hP : t ∈ P)
    {hsc : (dstM t).view.ref.isScScratch = false}
    {hsrc : (srcM t).view.WordExact} {hdst : (dstM t).view.WordExact}
    {hsem : DmaTarget.Typed .vmem (.dma (recvA t).sem) (.remote (Dev.tc (⟨ec c, hec c⟩ : Dev nD) : Thread nD τ) (dstM t : Memref sig (Dev.tc (⟨ec c, hec c⟩ : Dev nD) : Thread nD τ).2.kind .vmem (shp t) (elt t)) (.dma (sendA t).sem) hsc)}
    {k : PUnit → Prog (TpuEff nD τ sig (Elt F) Λ₀ .tc) α}
    (hk : St m ρ K c (n + 1) r s (P.erase t) R ⊢ wp frame (wpE (defs₀ (F := F)) 𝒱₀ (c : Thread nD τ) none) Set.univ (k ⟨⟩) Q) :
    St m ρ K c n r s P R ⊢ wp frame (wpE (defs₀ (F := F)) 𝒱₀ (c : Thread nD τ) none) Set.univ
      (.op (.enqueueDma (srcM t) (.remote (Dev.tc (⟨ec c, hec c⟩ : Dev nD) : Thread nD τ) (dstM t) (.dma (sendA t).sem) hsc) (.dma (recvA t).sem) hsrc hdst hsem) k) Q := by
  have he' := he c
  generalize (⟨ec c, hec c⟩ : Dev nD) = e' at *
  subst he'
  unfold St Core
  rw [hn]
  simp only [stars_cons, stars_append]
  rw [stars_erase (fun t => srcP m ρ t c) hP]
  iintro ⟨#Hl, #Hr, ⟨%V, HO⟩, ⟨Hd, Hf⟩, ⟨⟨⟨HtS, HtR⟩, Ht⟩, Hcs, Hrc, Hrv, Hsa, Hsv, ⟨Hsrc, HP⟩, Hkp⟩, HR⟩
  ihave Hi := (recs_at m ρ K (c, some (t, false))) $$ Hr
  icases Hi with ⟨#HiS, #HrS⟩
  ihave Hi := (recs_at m ρ K (tgt t c, some (t, true))) $$ Hr
  icases Hi with ⟨#HiR, #HrR⟩
  unfold srcP owns
  icases Hsrc with ⟨%fs, %hfs, Hs⟩
  ihave Hd := (freeP_pts t (tgt t c)) $$ Hd
  icases Hd with ⟨%fd, Hd⟩
  iapply (Rounds.wp_send_pointsTo 𝒱₀ ER (Rd m ρ) (c : Thread nD τ) none (c' := (tgt t c : Thread nD τ)) (κ₁ := K (c, some (t, false))) (κ₂ := K (tgt t c, some (t, true)))
    (r₁ := 0) (r₂ := 0) (d₁ := (0 : Fin 8)) (d₂ := (0 : Fin 8)) (fs := fs) (fd := fd) (q := shS t)
    (by rw [duties_send]; exact Finset.mem_singleton_self _) (by rw [duties_recv]; exact Finset.mem_singleton_self _)
    () () (amt t) rfl (amount_send m ρ t c 0) (amount_recv m ρ t (tgt t c) 0) (oweL c (order.drop (n + 1))) rfl (W := V)
    (by rw [payload_send]; unfold srcP; rw [← hfs]; exact owns_intro _ _ _ _)
    (by rw [payload_recv]; exact srcP_send t fd fs hfs)) $$ [Hs Hd HO HtS HtR]
  · isplitr; · iexact HiS
    isplitr; · iexact HiR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc1, HO⟩
  iapply hk
  unfold St Core
  rw [ht]
  simp only [stars_append, stars_cons]
  isplitr; · iexact Hl
  isplitr; · iexact Hr
  isplitl [HO]; · iexists V; iexact HO
  isplitl [Hf]; · iexact Hf
  isplitr [HR]
  · isplitl [Ht]; · iexact Ht
    isplitl [Hcs Hc1]
    · isplitl [Hcs]; · iexact Hcs
      isplitl [Hc1]; · iexact Hc1
      unfold stars; iempintro
    isplitl [Hrc]; · iexact Hrc
    isplitl [Hrv]; · iexact Hrv
    isplitl [Hsa]; · iexact Hsa
    isplitl [Hsv]; · iexact Hsv
    isplitl [HP]; · iexact HP
    iexact Hkp
  iexact HR

/-- Contents that read the same are the same where the view is. -/
theorem pts_congr (c : Dev nD) {sp : Space} {sh : Shape} {e : EltTy} (M : Memref sig .tc sp sh e) (q : PosShare TreeShare)
    (f g : Buf (Elt F) (M.view.loc (c : Thread nD τ))) (h : M.view.read (Elt F) f = M.view.read (Elt F) g) :
    (M.view.loc (c : Thread nD τ) ↦[M.view.set]{q} g : sProp (MT nD τ sig Unit (Elt F) ℕ UU ℕ)) = (M.view.loc (c : Thread nD τ) ↦[M.view.set]{q} f) := by
  refine pointsTo_congr fun i hi => ?_
  obtain ⟨x, -, rfl⟩ := Finset.mem_map.mp hi
  have h := congrFun h.symm x
  rw [View.read_apply, View.read_apply] at h
  exact (cast_inj _).mp h

/-- Ownership at a share is ownership at its two halves. -/
theorem owns_halves (c : Dev nD) {sp : Space} {sh : Shape} {e : EltTy} (M : Memref sig .tc sp sh e) (q : PosShare TreeShare) (X : sh.Idx → Elt F e) :
    owns (c : Thread nD τ) M q X
      = (iprop(owns (c : Thread nD τ) M q.left X ∗ owns (c : Thread nD τ) M q.right X) : sProp (MT nD τ sig Unit (Elt F) ℕ UU ℕ)) := by
  refine eq_of_entails ?_ ?_
  · unfold owns
    iintro ⟨%f, %hf, H⟩
    ihave H := (pointsTo_share (PosShare.mem_left_op_right q)).1 $$ H
    icases H with ⟨H₁, H₂⟩
    isplitl [H₁]
    · iexists f; isplitr; · ipureintro; exact hf
      iexact H₁
    · iexists f; isplitr; · ipureintro; exact hf
      iexact H₂
  · unfold owns
    iintro ⟨⟨%f, %hf, H₁⟩, ⟨%g, %hg, H₂⟩⟩
    ihave H₂ := (Entails.of_eq (pts_congr c M q.right f g (hf.trans hg.symm))) $$ H₂
    iexists f
    isplitr; · ipureintro; exact hf
    iapply (pointsTo_share (PosShare.mem_left_op_right q)).2
    isplitl [H₁] <;> iassumption

theorem srcP_of (t t' : T) (h : srcP m ρ t' c = owns (c : Thread nD τ) (dstM t) fullShare.left (valD m ρ t c)) (hk : shK t = fullShare.right) (hn : nxt t = [t']) :
    landP m ρ t c = iprop(stars (fun t => srcP m ρ t c) (nxt t) ∗ keepP m ρ t c) := by
  rw [hn, stars_cons, h]
  unfold landP keepP
  rw [hk, owns_halves]
  refine eq_of_entails ?_ ?_ <;> unfold stars
  · iintro ⟨H₁, H₂⟩
    isplitr [H₂]
    · isplitl; · iexact H₁
      iempintro
    · iexact H₂
  · iintro ⟨⟨H₁, -⟩, H₂⟩
    isplitl [H₁] <;> iassumption

theorem landP_keep (t : T) (hk : shK t = fullShare) (hn : nxt t = []) :
    landP m ρ t c = iprop(stars (fun t => srcP m ρ t c) (nxt t) ∗ keepP m ρ t c) := by
  rw [hn]
  unfold landP keepP
  rw [hk]
  exact (BI.equiv_iff.mp emp_sep).symm

theorem orig_next (c : Dev nD) : (∀ d s, orig' (.ring d 0 1 s) c = cross c 0) ∧ (∀ d j s, orig' (.ring d 1 j s) c = orig (.ring d 0 j s) c)
    ∧ ∀ d j s, orig' (.ring d 2 j s) c = orig (.ring d 1 j s) c := by revert c; decide +kernel

/-- What has landed splits into the source of the next hop and what stays. -/
theorem landP_split : (t : T) → landP m ρ t c = iprop(stars (fun t => srcP m ρ t c) (nxt t) ∗ keepP m ρ t c)
  | .z 0 => srcP_of (.z 0) (.ring 0 0 1 0) (by
      show owns (c : Thread nD τ) _ _ (wblk m ρ (orig' _ c) _) = owns (c : Thread nD τ) _ _ (wblk m ρ (cross c 0) _)
      rw [(orig_next c).1]; rfl) rfl rfl
  | .z 1 => srcP_of (.z 1) (.ring 1 0 1 0) (by
      show owns (c : Thread nD τ) _ _ (wblk m ρ (orig' _ c) _) = owns (c : Thread nD τ) _ _ (wblk m ρ (cross c 0) _)
      rw [(orig_next c).1]; rfl) rfl rfl
  | .z 2 => srcP_of (.z 2) (.ring 0 0 1 1) (by
      show owns (c : Thread nD τ) _ _ (wblk m ρ (orig' _ c) _) = owns (c : Thread nD τ) _ _ (wblk m ρ (cross c 0) _)
      rw [(orig_next c).1]; rfl) rfl rfl
  | .z 3 => srcP_of (.z 3) (.ring 1 0 1 1) (by
      show owns (c : Thread nD τ) _ _ (wblk m ρ (orig' _ c) _) = owns (c : Thread nD τ) _ _ (wblk m ρ (cross c 0) _)
      rw [(orig_next c).1]; rfl) rfl rfl
  | .ring d 0 j s => srcP_of (.ring d 0 j s) (.ring d 1 j s) (by
      show owns (c : Thread nD τ) _ _ (wblk m ρ (orig' (.ring d 1 j s) c) _) = owns (c : Thread nD τ) _ _ (wblk m ρ (orig (.ring d 0 j s) c) _)
      rw [(orig_next c).2.1]; rfl) rfl rfl
  | .ring d 1 j s => srcP_of (.ring d 1 j s) (.ring d 2 j s) (by
      show owns (c : Thread nD τ) _ _ (wblk m ρ (orig' (.ring d 2 j s) c) _) = owns (c : Thread nD τ) _ _ (wblk m ρ (orig (.ring d 1 j s) c) _)
      rw [(orig_next c).2.2]; rfl) rfl rfl
  | .ring _ 2 _ _ => landP_keep _ rfl rfl
  | .res _ => landP_keep _ rfl rfl

/-- A wait for an incoming transfer: what it brought is there, for the next hop and to stay. -/
theorem recv_step (t : T) (hr : recvOrder.drop r = t :: recvOrder.drop (r + 1)) (hr' : recvOrder.take (r + 1) = recvOrder.take r ++ [t])
    (hO : ∀ t' ∈ order.drop n, rank t < rank t')
    {sp sp' : Space} {s₁ s₂ : Shape} {e₁ e₂ : EltTy} {κ : Kind} {src : Memref sig .tc sp s₁ e₁} {dst : Memref sig κ sp' s₂ e₂}
    {hsrc : src.view.WordExact} {hdst : dst.view.WordExact} (hamt : dst.view.dmaCredit = amt t)
    {k : PUnit → Prog (TpuEff nD τ sig (Elt F) Λ₀ .tc) α}
    (hk : St m ρ K c n (r + 1) s (nxt t ++ P) R ⊢ wp frame (wpE (defs₀ (F := F)) 𝒱₀ (c : Thread nD τ) none) Set.univ (k ⟨⟩) Q) :
    St m ρ K c n r s P R ⊢ wp frame (wpE (defs₀ (F := F)) 𝒱₀ (c : Thread nD τ) none) Set.univ
      (.op (.waitDma2 (recvA t).sem src dst hsrc hdst) k) Q := by
  unfold St Core
  rw [hr]
  simp only [stars_cons]
  iintro ⟨#Hl, #Hr, ⟨%V, HO⟩, Hf, ⟨Ht, Hcs, ⟨⟨Ha, Hc⟩, Hrc⟩, Hrv, Hsa, Hsv, HP, Hkp⟩, HR⟩
  ihave Hi := (recs_at m ρ K (c, some (t, true))) $$ Hr
  icases Hi with ⟨#Hi, #Hre⟩
  iapply (Rounds.wp_wait_rest_token 𝒱₀ ER (Rd m ρ) (c : Thread nD τ) none (κ := K (c, some (t, true)))
      (wpE_waitDma2_eq 𝒱₀ (c : Thread nD τ) none Set.univ) (Set.mem_univ _) () (O := oweL c (order.drop n)) (W := V) (R := 0) (m := 0) (T := ∅)
      (by rw [hamt, Nat.zero_add]; exact (expect_recv m ρ t c).symm)) $$ [Hc HO Ha]
  · isplitr; · iexact Hi
    isplitl [Hc]; · rw [hamt]; iexact Hc
    isplitl [HO]; · iexact HO
    isplitr
    · iapply (mayWait_oweL c (.dma (recvA t).sem) (2 + rank t) (lv_recv t c ()).le (order.drop n) (fun t' h' => by have := hO t' h'; omega)); iexact Hl
    iexact Ha
  iintro ⟨HO, Ha, -, Hp⟩
  ihave Hp := (Entails.of_eq (rest_recv m ρ t c)) $$ Hp
  ihave Hp := (Entails.of_eq (landP_split t)) $$ Hp
  icases Hp with ⟨Hn, Hk⟩
  imod (Rounds.cell_close ER (Rd m ρ) (Set.mem_univ (K (c, some (t, true)))) (fun h => h) (R := 0 + 1) (duties_later m ρ (recvCell t c))) $$ [Ha] with Hz
  · isplitr; · iexact Hi
    iexact Ha
  iapply hk
  unfold St Core
  rw [hr']
  simp only [stars_append, stars_cons]
  isplitr; · iexact Hl
  isplitr; · iexact Hr
  isplitl [HO]; · iexists _; iexact HO
  isplitl [Hf]; · iexact Hf
  isplitr [HR]
  · isplitl [Ht]; · iexact Ht
    isplitl [Hcs]; · iexact Hcs
    isplitl [Hrc]; · iexact Hrc
    isplitl [Hrv Hz]
    · isplitl [Hrv]; · iexact Hrv
      isplitl [Hz]; · iexact Hz
      unfold stars; iempintro
    isplitl [Hsa]; · iexact Hsa
    isplitl [Hsv]; · iexact Hsv
    isplitl [Hn HP]
    · isplitl [Hn] <;> iassumption
    isplitl [Hkp]; · iexact Hkp
    isplitl [Hk]; · iexact Hk
    unfold stars; iempintro
  iexact HR

/-- The order of the waits for the own transfers: as they were issued, but `res 6` with the other blocks. -/
def backOrder : List T := order.take 16 ++ (order.drop 17).take 12 ++ .res 6 :: order.drop 29

variable (m ρ) in
/-- The state when all is issued and received and `s` of the own transfers are waited for. -/
def Wt (K : Dev nD × Option (T × Bool) → ℕ) (c : Dev nD) (s : ℕ) (P : List T) (R : sProp (MT nD τ sig Unit (Elt F) ℕ UU ℕ)) :
    sProp (MT nD τ sig Unit (Elt F) ℕ UU ℕ) :=
  iprop(levAts L lv ∗ recs m ρ K ∗ (∃ V, owes (c : Thread nD τ) 0 V)
    ∗ stars (fun t => cred (tallyAt (sendCell t c) () (amt t))) (backOrder.drop s)
    ∗ stars (fun t => atPos ER (sendCell t c) 0 (∅ : Finset (Fin 8)) 0) (backOrder.drop s)
    ∗ stars (fun t => semVal (sendCell t c) 0) (backOrder.take s)
    ∗ stars (fun t => srcP m ρ t c) P ∗ R)

/-- When the last transfer is issued and the last came. -/
theorem turn (hk : Wt m ρ K c 0 P iprop((stars (fun t => semVal (recvCell t c) 0) recvOrder ∗ stars (fun t => keepP m ρ t c) recvOrder) ∗ R) ⊢ Q₀) :
    St m ρ K c 35 35 0 P R ⊢ Q₀ := by
  refine BIBase.Entails.trans ?_ hk
  unfold St Core Wt
  rw [show order.take 35 = order from rfl, show order.drop 35 = [] from rfl, show recvOrder.take 35 = recvOrder from rfl,
    show recvOrder.drop 35 = [] from rfl, show List.drop 0 order = order from rfl, show List.drop 0 backOrder = backOrder from rfl,
    stars_perm _ (show order.Perm backOrder by decide +kernel), stars_perm _ (show order.Perm backOrder by decide +kernel)]
  iintro ⟨#Hl, #Hr, HO, -, ⟨-, Hc, -, Hv, Ha, -, HP, Hk⟩, HR⟩
  isplitr; · iexact Hl
  isplitr; · iexact Hr
  isplitl [HO]; · iexact HO
  isplitl [Hc]; · iexact Hc
  isplitl [Ha]; · iexact Ha
  isplitr; · unfold stars; iempintro
  isplitl [HP]; · iexact HP
  isplitr [HR]
  · isplitl [Hv] <;> iassumption
  iexact HR

/-- A wait for an own transfer, all being issued: its source is back. -/
theorem back_step (t : T) (hs : backOrder.drop s = t :: backOrder.drop (s + 1)) (hs' : backOrder.take (s + 1) = backOrder.take s ++ [t])
    {sp sp' : Space} {s₁ s₂ : Shape} {e₁ e₂ : EltTy} {κ : Kind} {src : Memref sig .tc sp s₁ e₁} {dst : Memref sig κ sp' s₂ e₂}
    {hsrc : src.view.WordExact} {hdst : dst.view.WordExact} (hamt : dst.view.dmaCredit = amt t)
    {k : PUnit → Prog (TpuEff nD τ sig (Elt F) Λ₀ .tc) α}
    (hk : Wt m ρ K c (s + 1) (t :: P) R ⊢ wp frame (wpE (defs₀ (F := F)) 𝒱₀ (c : Thread nD τ) none) Set.univ (k ⟨⟩) Q) :
    Wt m ρ K c s P R ⊢ wp frame (wpE (defs₀ (F := F)) 𝒱₀ (c : Thread nD τ) none) Set.univ
      (.op (.waitDma2 (sendA t).sem src dst hsrc hdst) k) Q := by
  unfold Wt
  rw [hs]
  simp only [stars_cons]
  iintro ⟨#Hl, #Hr, ⟨%V, HO⟩, ⟨Hc, Hcs⟩, ⟨Ha, Hsa⟩, Hsv, HP, HR⟩
  ihave Hi := (recs_at m ρ K (c, some (t, false))) $$ Hr
  icases Hi with ⟨#Hi, #Hre⟩
  iapply (Rounds.wp_wait_rest_token 𝒱₀ ER (Rd m ρ) (c : Thread nD τ) none (κ := K (c, some (t, false)))
      (wpE_waitDma2_eq 𝒱₀ (c : Thread nD τ) none Set.univ) (Set.mem_univ _) () (O := 0) (W := V) (R := 0) (m := 0) (T := ∅)
      (by rw [hamt, Nat.zero_add]; exact (expect_send m ρ t c).symm)) $$ [Hc HO Ha]
  · isplitr; · iexact Hi
    isplitl [Hc]; · rw [hamt]; iexact Hc
    isplitl [HO]; · iexact HO
    isplitr; · rw [MayWait_zero]; iempintro
    iexact Ha
  iintro ⟨HO, Ha, -, Hp⟩
  ihave Hp := (Entails.of_eq (rest_send m ρ t c)) $$ Hp
  imod (Rounds.cell_close ER (Rd m ρ) (Set.mem_univ (K (c, some (t, false)))) (fun h => h) (R := 0 + 1) (duties_later m ρ (sendCell t c))) $$ [Ha] with Hz
  · isplitr; · iexact Hi
    iexact Ha
  iapply hk
  unfold Wt
  rw [hs']
  simp only [stars_append, stars_cons]
  isplitr; · iexact Hl
  isplitr; · iexact Hr
  isplitl [HO]; · iexists _; iexact HO
  isplitl [Hcs]; · iexact Hcs
  isplitl [Hsa]; · iexact Hsa
  isplitl [Hsv Hz]
  · isplitl [Hsv]; · iexact Hsv
    isplitl [Hz]; · iexact Hz
    unfold stars; iempintro
  isplitr [HR]
  · isplitl [Hp] <;> iassumption
  iexact HR

end Steps

end Cert.MM
-- ==== Proof.Own.lean ====
/-
# Part of a buffer, with its contents

`own c M q S X`: device `c` holds the elements of the memref `M` at the indices in `S`, with share `q`, and they hold
`X`. Pieces of a buffer are such parts: cutting along a disjoint union, restricting to a rectangle, dropping axes of size
one, loading and storing are each one theorem here, whatever the buffer.
-/
module

public import proofs.«01_k».proof.Proof.Steps

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions. -/
abbrev PP (F : FTy → Type) [FloatOps F] := sProp (MT nD τ sig Unit (Elt F) ℕ UU ℕ)

variable {c : Dev nD} {sp : Space} {sh : Shape} {e : EltTy} {M : Memref sig .tc sp sh e} {q : PosShare TreeShare}

/-- The elements of `M` at the indices in `S`, at share `q`, holding `X`. -/
def own (c : Dev nD) (M : Memref sig .tc sp sh e) (q : PosShare TreeShare) (S : Finset sh.Idx) (X : sh.Idx → Elt F e) : PP F :=
  iprop(∃ f, ⌜∀ i ∈ S, M.view.read (Elt F) f i = X i⌝ ∗ (M.view.loc (c : Thread nD τ) ↦[M.view.setOn S]{q} f))

/-- What a view reads determines the elements it reads. -/
theorem read_inj (f g : Buf (Elt F) (M.view.loc (c : Thread nD τ))) (i : sh.Idx) (h : M.view.read (Elt F) f i = M.view.read (Elt F) g i) :
    f (M.view.emb i) = g (M.view.emb i) := by
  rw [View.read_apply, View.read_apply] at h
  exact (cast_inj _).mp h

theorem own_congr {S : Finset sh.Idx} {X Y : sh.Idx → Elt F e} (h : ∀ i ∈ S, X i = Y i) : own c M q S X = own c M q S Y := by
  unfold own
  refine eq_of_entails ?_ ?_
  · iintro ⟨%f, %hf, H⟩
    iexists f
    isplitr
    · ipureintro; exact fun i hi => (hf i hi).trans (h i hi)
    · iexact H
  · iintro ⟨%f, %hf, H⟩
    iexists f
    isplitr
    · ipureintro; exact fun i hi => (hf i hi).trans (h i hi).symm
    · iexact H

theorem own_univ (X : sh.Idx → Elt F e) : (owns (c : Thread nD τ) M q X : PP F) = own c M q Finset.univ X := by
  unfold own owns
  refine eq_of_entails ?_ ?_
  · iintro ⟨%f, %hf, H⟩
    iexists f
    isplitr
    · ipureintro; exact fun i _ => congrFun hf i
    · iexact H
  · iintro ⟨%f, %hf, H⟩
    iexists f
    isplitr
    · ipureintro; exact funext fun i => hf i (Finset.mem_univ i)
    · iexact H

/-- A rectangle of a memref is the part of it at the rectangle's indices. -/
theorem own_slice (r : Rect sh) (h1 : ∀ a, r.stride a = 1) {Y : r.shape.Idx → Elt F e} {X : sh.Idx → Elt F e} (h : ∀ x, X (r.idx x) = Y x) :
    (owns (c : Thread nD τ) (M.slice r h1) q Y : PP F) = own c M q r.set X := by
  have hs : (M.slice r h1).view.set = M.view.setOn r.set := View.set_slice M.view r
  unfold own owns
  refine eq_of_entails ?_ ?_
  · iintro ⟨%f, %hf, H⟩
    iexists f
    isplitr
    · ipureintro
      intro i hi
      obtain ⟨x, rfl⟩ := r.exists_idx_of_mem hi
      exact (congrFun hf x).trans (h x).symm
    · rw [← hs]; iexact H
  · iintro ⟨%f, %hf, H⟩
    iexists f
    isplitr
    · ipureintro
      funext x
      exact (hf _ (r.idx_mem x)).trans (h x)
    · rw [hs]; iexact H

/-- Dropping axes of size one re-indexes. -/
theorem owns_squeeze (s' : Shape) (hq : sh.Squeezes s') {Y : s'.Idx → Elt F e} {X : sh.Idx → Elt F e} (h : ∀ x, X (Shape.reshapeEquiv hq.numel_eq x) = Y x) :
    (owns (c : Thread nD τ) (M.squeeze s' hq) q Y : PP F) = owns (c : Thread nD τ) M q X := by
  have hs : (M.squeeze s' hq).view.set = M.view.set := View.set_reshape _ _
  unfold owns
  refine eq_of_entails ?_ ?_
  · iintro ⟨%f, %hf, H⟩
    iexists f
    isplitr
    · ipureintro
      funext i
      obtain ⟨x, rfl⟩ := (Shape.reshapeEquiv hq.numel_eq).surjective i
      exact (congrFun hf x).trans (h x).symm
    · rw [← hs]; iexact H
  · iintro ⟨%f, %hf, H⟩
    iexists f
    isplitr
    · ipureintro
      funext x
      exact (congrFun hf (Shape.reshapeEquiv hq.numel_eq x)).trans (h x)
    · rw [hs]; iexact H

theorem own_union {S T : Finset sh.Idx} (hd : Disjoint S T) (X : sh.Idx → Elt F e) :
    own c M q (S ∪ T) X = iprop(own c M q S X ∗ own c M q T X) := by
  have hu : M.view.setOn (S ∪ T) = M.view.setOn S ∪ M.view.setOn T := Finset.map_union _ _
  have hd' : Disjoint (M.view.setOn S) (M.view.setOn T) := (Finset.disjoint_map _).mpr hd
  unfold own
  refine eq_of_entails ?_ ?_
  · iintro ⟨%f, %hf, H⟩
    rw [hu]
    ihave H2 := (pointsTo_union (f := f) hd').1 $$ H
    icases H2 with ⟨H1, H2⟩
    isplitl [H1]
    · iexists f
      isplitr
      · ipureintro; exact fun i hi => hf i (Finset.mem_union_left _ hi)
      · iexact H1
    · iexists f
      isplitr
      · ipureintro; exact fun i hi => hf i (Finset.mem_union_right _ hi)
      · iexact H2
  · iintro ⟨⟨%f, %hf, H1⟩, ⟨%g, %hg, H2⟩⟩
    iexists (M.view.setOn T).piecewise g f
    isplitr
    · ipureintro
      intro i hi
      by_cases hT : i ∈ T
      · rw [View.read_apply, Finset.piecewise_eq_of_mem _ _ _ (M.view.mem_setOn.mpr hT)]; exact hg i hT
      · rw [View.read_apply, Finset.piecewise_eq_of_notMem _ _ _ (fun h => hT (M.view.mem_setOn.mp h))]
        exact hf i ((Finset.mem_union.mp hi).resolve_right hT)
    · rw [hu]
      iapply (pointsTo_join hd') $$ [H1 H2]
      isplitl [H1] <;> iassumption

/-- Along a family of disjoint parts that covers. -/
theorem own_biUnion {I : Type} [DecidableEq I] (l : List I) (S : I → Finset sh.Idx) (hd : l.Pairwise fun i j => Disjoint (S i) (S j)) (X : sh.Idx → Elt F e) :
    iprop(own c M q (l.toFinset.biUnion S) X) = stars (fun i => own c M q (S i) X) l := by
  induction l with
  | nil =>
    show own c M q ∅ X = iprop(emp)
    unfold own
    have hs : M.view.setOn ∅ = ∅ := Finset.map_empty _
    refine eq_of_entails ?_ ?_
    · iintro ⟨%f, -, H⟩
      rw [hs, pointsTo_empty]; iempintro
    · iintro -
      iexists (M.view.junk)
      isplitr
      · ipureintro; exact fun i hi => absurd hi (Finset.notMem_empty i)
      · rw [hs, pointsTo_empty]; iempintro
  | cons i l ih =>
    rw [stars_cons, ← ih (List.pairwise_cons.mp hd).2, List.toFinset_cons, Finset.biUnion_insert, own_union]
    rw [Finset.disjoint_biUnion_right]
    exact fun j hj => (List.pairwise_cons.mp hd).1 j (List.mem_toFinset.mp hj)

/-- Whole ownership of a whole buffer. -/
theorem own_whole (b : Ref sig .tc) (f : Buf (Elt F) ((c : Thread nD τ).loc b)) :
    own c (Memref.whole b) q Finset.univ f = ((c : Thread nD τ).loc b ↦{q} f : PP F) := by
  rw [← own_univ]; exact owns_whole (c : Thread nD τ) b q f

variable {α : Type} {Q : α → PP F}

/-- A load through indices all of which are held. -/
theorem own_load {sp : CoreSpace} {M : Memref sig .tc sp sh e} {r : LoadRect sh} {hl : M.view.LoadsAt r} {k : (r.shape.Idx → Elt F e) → Prog (TpuEff nD τ sig (Elt F) Λ₀ .tc) α}
    {S : Finset sh.Idx} {X : sh.Idx → Elt F e} (hS : ∀ x, r.idx x ∈ S) :
    own c M q S X ⊢ iprop((own c M q S X -∗ wp frame (wpE (defs₀ (F := F)) 𝒱₀ (c : Thread nD τ) none) Set.univ (k fun x => X (r.idx x)) Q)
      -∗ wp frame (wpE (defs₀ (F := F)) 𝒱₀ (c : Thread nD τ) none) Set.univ (.op (.load M r hl) k) Q) := by
  unfold own
  iintro ⟨%f, %hf, H⟩ Hk
  have hv : M.view.readAt (Elt F) r f = fun x => X (r.idx x) := funext fun x => hf _ (hS x)
  iapply (wp_load 𝒱₀ (c : Thread nD τ) none Set.univ (f := f) (S := M.view.setOn S)
    (Finset.map_subset_map.mpr fun i hi => by obtain ⟨x, rfl⟩ := r.exists_idx_of_mem hi; exact hS x)) $$ H
  rw [hv]
  iintro H
  iapply Hk
  iexists f
  isplitr
  · ipureintro; exact hf
  · iexact H

/-- A store of a rectangle, all held at the full share. -/
theorem own_store {sp : CoreSpace} {M : Memref sig .tc sp sh e} {r : Rect sh} {w : r.shape.Idx → Elt F e} {hx : (M.access r).Stores Finset.univ}
    {hm : (Finset.univ : Finset r.shape.Idx) = Finset.univ ∨ ∀ a, r.stride a = 1} {k : PUnit → Prog (TpuEff nD τ sig (Elt F) Λ₀ .tc) α}
    {S : Finset sh.Idx} {X Y : sh.Idx → Elt F e} (hS : r.set ⊆ S) (hw : ∀ x, Y (r.idx x) = w x) (hY : ∀ i ∈ S, i ∉ r.set → Y i = X i) :
    own c M fullShare S X ⊢ iprop((own c M fullShare S Y -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) := by
  have hs : (M.access r).setOn Finset.univ = M.view.setOn r.set := View.set_slice M.view r
  unfold own
  iintro ⟨%f, %hf, H⟩ Hk
  iapply (wp_store 𝒱₀ (c : Thread nD τ) none Set.univ (m := M) (r := r) (f := f) (S := M.view.setOn S)
    (by rw [hs]; exact Finset.map_subset_map.mpr hS)) $$ H
  iintro H
  iapply Hk
  iexists ((M.access r).write (Elt F) f w Finset.univ)
  isplitr
  · ipureintro
    intro i hi
    by_cases hr : i ∈ r.set
    · obtain ⟨x, rfl⟩ := r.exists_idx_of_mem hr
      rw [hw]
      exact View.read_write_of_mem _ _ (Finset.mem_univ x)
    · rw [hY i hi hr, ← hf i hi, View.read_apply, View.read_apply]
      congr 1
      exact View.write_of_not_mem _ _ _ (fun h => hr (by rw [hs] at h; exact M.view.mem_setOn.mp h))
  · iexact H

end Cert.MM
-- ==== Proof.Mem.lean ====
/-
# Loads and stores of the body

What device `c` holds outside the protocol (`Rest`): the slots not yet computed, its rows of `x` in bf16, the result so
far, its staged blocks. Each theorem is one load or store of the body, in the form of `Steps`.
-/
module

public import proofs.«01_k».proof.Proof.Own

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD} {n r s : ℕ} {P : List T}
variable {R : sProp (MT nD τ sig Unit (Elt F) ℕ UU ℕ)}

/-- A part of the program at the buffers and semaphores of the launch. -/
abbrev ap {β : Type 1} (p : (arg0 : Memref sig .tc .smem S1 .f32) → (harg0 : arg0.IsWhole) → (arg1 : Memref sig .tc .smem S1 .f32) → (harg1 : arg1.IsWhole) →
    (arg2 : Memref sig .tc .vmem S512x4096 .fp8e4m3) → (harg2 : arg2.IsWhole) → (arg3 : Memref sig .tc .vmem S4096x256 .fp8e5m2) → (harg3 : arg3.IsWhole) →
    (arg4 : Memref sig .tc .vmem S4096x256 .f32) → (harg4 : arg4.IsWhole) → (arg5 : Memref sig .tc .vmem S512x4096 .bf16) → (harg5 : arg5.IsWhole) →
    (arg6 : Memref sig .tc .vmem S4096x256 .fp8e5m2) → (harg6 : arg6.IsWhole) → (arg7 : Memref sig .tc .vmem S3x2x2048x256 .fp8e5m2) → (harg7 : arg7.IsWhole) →
    (arg8 : Memref sig .tc .vmem S3x2x2048x256 .fp8e5m2) → (harg8 : arg8.IsWhole) → (arg9 : Memref sig .tc .vmem S7x512x256 .bf16) → (harg9 : arg9.IsWhole) →
    (arg10 : Memref sig .tc .vmem S7x512x256 .bf16) → (harg10 : arg10.IsWhole) → (arg11 : DmaSems sig S4) → (arg12 : DmaSems sig S4) →
    (arg13 : DmaSems sig S3x2x2) → (arg14 : DmaSems sig S3x2x2) → (arg15 : DmaSems sig S3x2x2) → (arg16 : DmaSems sig S3x2x2) →
    (arg17 : DmaSems sig S7) → (arg18 : DmaSems sig S7) → β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13

/-- The precondition a part of the program needs for a postcondition, on device `c`. -/
abbrev Wp {α : Type} (c : Dev nD) (p : Prog (TpuEff nD τ sig (Elt F) Λ₀ .tc) α) (Q : α → sProp (MT nD τ sig Unit (Elt F) ℕ UU ℕ)) :
    sProp (MT nD τ sig Unit (Elt F) ℕ UU ℕ) := wp frame (wpE (defs₀ (F := F)) 𝒱₀ (c : Thread nD τ) none) Set.univ p Q

theorem ret_step {α : Type} {S : sProp (MT nD τ sig Unit (Elt F) ℕ UU ℕ)} {a : α} {Q : α → sProp (MT nD τ sig Unit (Elt F) ℕ UU ℕ)} (h : S ⊢ Q a) :
    S ⊢ Wp c (.ret a) Q := by
  unfold Wp; rw [wp_ret]; iintro H; imodintro; iapply h; iexact H

theorem bind_step {α β : Type} {S : sProp (MT nD τ sig Unit (Elt F) ℕ UU ℕ)} {p : Prog (TpuEff nD τ sig (Elt F) Λ₀ .tc) α}
    {k : α → Prog (TpuEff nD τ sig (Elt F) Λ₀ .tc) β} {Q : β → sProp (MT nD τ sig Unit (Elt F) ℕ UU ℕ)} (h : S ⊢ Wp c p (fun a => Wp c (k a) Q)) :
    S ⊢ Wp c (p >>= k) Q := by
  unfold Wp at *; rw [wp_bind]; exact h

/-! ## Contents by buffer -/

section Contents
variable (m ρ)

/-- What the landing buffers hold when all has landed, and the buffer of finished blocks when all is computed. -/
def Gmate (c : Dev nD) : S4096x256.Idx → Elt F .fp8e5m2 := W m ρ (cross c 0)
def Gring (d : Fin 2) (c : Dev nD) : S3x2x2048x256.Idx → Elt F .fp8e5m2 := fun i =>
  W m ρ (orig (.ring d (i 0) (i 1) 0) c) (ix2 (row (d.val * 2048) (i 2).val) (i 3))
def Grcv (c : Dev nD) : S7x512x256.Idx → Elt F .bf16 := fun i => res3 m ρ (snd (.res (i 0)) c) c (ix3 0 (i 1) (i 2))
def Gres (c : Dev nD) : S7x512x256.Idx → Elt F .bf16 := fun i => res3 m ρ c (tgt (.res (i 0)) c) (ix3 0 (i 1) (i 2))

/-- Half a block of `w` with the two leading axes of a ring buffer. -/
def half4 (e : Dev nD) (b : ℕ) : S1x1x2048x256.Idx → Elt F .fp8e5m2 := fun x => W m ρ e (ix2 (row b (x 2).val) (x 3))

/-- The block of the result a device's row of the result lies in. -/
def blkOf (i : S4096x256.Idx) : Dev nD := ⟨(i 0).val / 512, by have : (i 0).val < 4096 := (i 0).isLt; show _ < 8; omega⟩
/-- The row within it. -/
def rowIn (i : S4096x256.Idx) : Fin 512 := ⟨(i 0).val % 512, Nat.mod_lt _ (by decide)⟩

/-- Block `e` of the result of `c`: its own, or what came from `e`. -/
def outB (c e : Dev nD) : S512x256.Idx → Elt F .f32 :=
  if e = c then k0_pay4 (sc m ρ c) (x16V m ρ c) (W m ρ c) else k0_pay15 (res3 m ρ e c)
/-- The result of `c`. -/
def outV (c : Dev nD) : S4096x256.Idx → Elt F .f32 := fun i => outB m ρ c (blkOf i) (ix2 (rowIn i) (i 1))

end Contents

/-! ## The pieces as parts of their buffers -/

theorem rowR_idx (t : T) (x : S1024x256.Idx) : (rowR t).idx x = ix2 (row (base t) (x 0).val) (x 1) := by
  have hx : (x 0).val < 1024 := (x 0).isLt
  have hb := base_le t
  funext a
  match a with
  | ⟨0, _⟩ => exact Fin.ext (by show base t + 1 * (x 0).val = (base t + (x 0).val) % 4096; omega)
  | ⟨1, _⟩ => exact Fin.ext (by show 0 + 1 * (x 1).val = (x 1).val; omega)

theorem owns_rows (M : Memref sig .tc .vmem S4096x256 .fp8e5m2) (t : T) (q : PosShare TreeShare) (e : Dev nD) :
    (owns (c : Thread nD τ) (rowsOf M t) q (wblk m ρ e (base t)) : PP F) = own c M q (rowR t).set (W m ρ e) :=
  own_slice _ _ fun x => by rw [rowR_idx]; rfl

theorem owns_ring (d : Fin 2) (h : Fin 3) (j s : Fin 2) (q : PosShare TreeShare) {Y : S1024x256.Idx → Elt F .fp8e5m2} {G : S3x2x2048x256.Idx → Elt F .fp8e5m2}
    (hG : ∀ x, G ((ringR h j s).idx (ix4 (0 : Fin 1) (0 : Fin 1) (x 0) (x 1))) = Y x) :
    (owns (c : Thread nD τ) (ringOf d h j s) q Y : PP F) = own c (ringM d) q (ringR h j s).set G := by
  rw [← own_slice (M := ringM d) (q := q) (c := c) (ringR h j s) (fun _ => rfl) (Y := fun x => G ((ringR h j s).idx x)) (fun _ => rfl)]
  refine owns_squeeze _ _ fun x => ?_
  rw [← hG x]
  obtain ⟨y, rfl⟩ : ∃ y : S1024x256.Idx, y = x := ⟨x, rfl⟩
  congr 2
  exact (congrArg _ (eq_ix2 y)).trans (reshapeEquiv_ix2_11ab (a := 1024) (b := 256) _ (y 0) (y 1))

theorem owns_slot (M : Memref sig .tc .vmem S7x512x256 .bf16) (k : Fin 7) (q : PosShare TreeShare) {Y : S512x256.Idx → Elt F .bf16} {G : S7x512x256.Idx → Elt F .bf16}
    (hG : ∀ x, G ((slotR k).idx (ix3 (0 : Fin 1) (x 0) (x 1))) = Y x) :
    (owns (c : Thread nD τ) (slotOf M k) q Y : PP F) = own c M q (slotR k).set G := by
  rw [← own_slice (M := M) (q := q) (c := c) (slotR k) (fun _ => rfl) (Y := fun x => G ((slotR k).idx x)) (fun _ => rfl)]
  refine owns_squeeze _ _ fun x => ?_
  rw [← hG x]
  obtain ⟨y, rfl⟩ : ∃ y : S512x256.Idx, y = x := ⟨x, rfl⟩
  congr 2
  exact (congrArg _ (eq_ix2 y)).trans (reshapeEquiv_ix2_1ab (a := 512) (b := 256) _ (y 0) (y 1))

theorem ix3_first (x : S1x512x256.Idx) : x = ix3 (0 : Fin 1) (x 1) (x 2) := by
  funext a
  match a with
  | ⟨0, _⟩ => exact Fin.ext (by have : (x 0).val < 1 := (x 0).isLt; show (x 0).val = 0; omega)
  | ⟨1, _⟩ => rfl
  | ⟨2, _⟩ => rfl

theorem slotR_idx (k : Fin 7) (x : S1x512x256.Idx) : (slotR k).idx x = ix3 k (x 1) (x 2) := by
  have h0 : (x 0).val < 1 := (x 0).isLt
  funext a
  match a with
  | ⟨0, _⟩ => exact Fin.ext (by show k.val + 1 * (x 0).val = k.val; omega)
  | ⟨1, _⟩ => exact Fin.ext (by show 0 + 1 * (x 1).val = (x 1).val; omega)
  | ⟨2, _⟩ => exact Fin.ext (by show 0 + 1 * (x 2).val = (x 2).val; omega)

theorem ringR_idx (h : Fin 3) (j s : Fin 2) (x : S1x1x1024x256.Idx) : (ringR h j s).idx x
    = ix4 h j (⟨s.val * 1024 + (x 2).val, by have : (x 2).val < 1024 := (x 2).isLt; omega⟩ : Fin 2048) (x 3) := by
  have h0 : (x 0).val < 1 := (x 0).isLt
  have h1 : (x 1).val < 1 := (x 1).isLt
  funext a
  match a with
  | ⟨0, _⟩ => exact Fin.ext (by show h.val + 1 * (x 0).val = h.val; omega)
  | ⟨1, _⟩ => exact Fin.ext (by show j.val + 1 * (x 1).val = j.val; omega)
  | ⟨2, _⟩ => exact Fin.ext (by show s.val * 1024 + 1 * (x 2).val = s.val * 1024 + (x 2).val; omega)
  | ⟨3, _⟩ => exact Fin.ext (by show 0 + 1 * (x 3).val = (x 3).val; omega)

theorem row_add (a b r : ℕ) : row a (b + r) = row (a + b) r := Fin.ext (by show (a + (b + r)) % 4096 = (a + b + r) % 4096; rw [Nat.add_assoc])

theorem keep_z (i : Fin 4) : (keepP m ρ (.z i) c : PP F) = own c mateM fullShare.right (rowR (.z i)).set (Gmate m ρ c) :=
  owns_rows mateM (.z i) fullShare.right (cross c 0)

theorem keep_ring (d : Fin 2) (h : Fin 3) (j s : Fin 2) : (keepP m ρ (.ring d h j s) c : PP F)
    = own c (ringM d) (shK (.ring d h j s)) (ringR h j s).set (Gring m ρ d c) :=
  owns_ring d h j s _ fun x => by
    rw [ringR_idx]
    show W m ρ (orig (.ring d h j 0) c) (ix2 (row (d.val * 2048) (s.val * 1024 + (x 0).val)) (x 1))
      = W m ρ (orig (.ring d h j s) c) (ix2 (row (d.val * 2048 + s.val * 1024) (x 0).val) (x 1))
    rw [row_add]; rfl

theorem keep_res (k : Fin 7) : (keepP m ρ (.res k) c : PP F) = own c rcvM fullShare (slotR k).set (Grcv m ρ c) :=
  owns_slot rcvM k fullShare fun x => by rw [slotR_idx]; rfl

theorem src_res (k : Fin 7) : (srcP m ρ (.res k) c : PP F) = own c resM fullShare (slotR k).set (Gres m ρ c) :=
  owns_slot resM k fullShare fun x => by rw [slotR_idx]; rfl

/-! ## What is held beside the protocol -/

/-- A slot of finished blocks before its block is computed. -/
def slotFree (c : Dev nD) (k : Fin 7) : PP F := iprop(∃ X, own c resM fullShare (slotR k).set X)

variable (m ρ) in
/-- The result, of which the blocks in `O` are done. -/
def OutP (c : Dev nD) (O : List (Dev nD)) : PP F := iprop(∃ f, ⌜∀ i, blkOf i ∈ O → f i = outV m ρ c i⌝ ∗ own c outM fullShare Finset.univ f)

variable (m ρ) in
/-- All that is held beside the protocol: `Y` is what the bf16 rows of `x` hold, `Fr` the slots not computed, `O` the
    blocks of the result that are done. -/
def Rest (c : Dev nD) (Y : S512x4096.Idx → Elt F .bf16) (Fr : List (Fin 7)) (O : List (Dev nD)) : PP F :=
  iprop(semVal (barCell c) 0 ∗ stars (slotFree c) Fr ∗ own c x16M fullShare Finset.univ Y ∗ OutP m ρ c O
    ∗ own c wM fullShare.right.right Finset.univ (W m ρ c) ∗ own c xM fullShare Finset.univ (X m ρ c)
    ∗ own c (Memref.whole cc0_stg0_0) fullShare Finset.univ (SX m ρ c) ∗ own c (Memref.whole cc0_stg1_0) fullShare Finset.univ (SW m ρ c))

/-! ## Loads -/

variable {α : Type} {Q : α → PP F} {Y : S512x4096.Idx → Elt F .bf16} {Fr : List (Fin 7)} {O : List (Dev nD)}

/-- A load that reads from two pieces kept of what landed. -/
theorem keep_load2 {sh : Shape} {e : EltTy} {M : Memref sig .tc .vmem sh e} {q : PosShare TreeShare} {G : sh.Idx → Elt F e} {S₀ S₁ : Finset sh.Idx} (t₀ t₁ : T)
    (h₀ : t₀ ∈ recvOrder.take r) (h₁ : t₁ ∈ (recvOrder.take r).erase t₀)
    (e₀ : (keepP m ρ t₀ c : PP F) = own c M q S₀ G) (e₁ : (keepP m ρ t₁ c : PP F) = own c M q S₁ G) (hd : Disjoint S₀ S₁)
    {lr : LoadRect sh} (hS : ∀ x, lr.idx x ∈ S₀ ∪ S₁) {hl : M.view.LoadsAt lr} {k : (lr.shape.Idx → Elt F e) → Prog (TpuEff nD τ sig (Elt F) Λ₀ .tc) α}
    (hk : St m ρ K c n r s P R ⊢ Wp c (k fun x => G (lr.idx x)) Q) :
    St m ρ K c n r s P R ⊢ Wp c (.op (.load M lr hl) k) Q := by
  have hst : St m ρ K c n r s P R ⊢ iprop((own c M q (S₀ ∪ S₁) G) ∗ ((own c M q (S₀ ∪ S₁) G) -∗ St m ρ K c n r s P R)) := by
    unfold St Core
    rw [stars_erase (fun t => keepP m ρ t c) h₀, stars_erase (fun t => keepP m ρ t c) h₁, e₀, e₁, own_union hd]
    iintro ⟨#Hl, #Hr, HO, Hf, ⟨H1, H2, H3, H4, H5, H6, H7, Ha, Hb, H8⟩, HR⟩
    isplitl [Ha Hb]; · isplitl [Ha] <;> iassumption
    iintro ⟨Ha, Hb⟩
    isplitr; · iexact Hl
    isplitr; · iexact Hr
    isplitl [HO]; · iexact HO
    isplitl [Hf]; · iexact Hf
    isplitr [HR]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Ha]; · iexact Ha
      isplitl [Hb] <;> iassumption
    · iexact HR
  refine hst.trans ?_
  iintro ⟨H, Hb⟩
  iapply (own_load hS) $$ H
  iintro H
  iapply hk
  iapply Hb; iexact H

/-- The same of one piece. -/
theorem keep_load1 {sh : Shape} {e : EltTy} {M : Memref sig .tc .vmem sh e} {q : PosShare TreeShare} {G : sh.Idx → Elt F e} {S₀ : Finset sh.Idx} (t₀ : T)
    (h₀ : t₀ ∈ recvOrder.take r) (e₀ : (keepP m ρ t₀ c : PP F) = own c M q S₀ G)
    {lr : LoadRect sh} (hS : ∀ x, lr.idx x ∈ S₀) {hl : M.view.LoadsAt lr} {k : (lr.shape.Idx → Elt F e) → Prog (TpuEff nD τ sig (Elt F) Λ₀ .tc) α}
    (hk : St m ρ K c n r s P R ⊢ Wp c (k fun x => G (lr.idx x)) Q) :
    St m ρ K c n r s P R ⊢ Wp c (.op (.load M lr hl) k) Q := by
  have hst : St m ρ K c n r s P R ⊢ iprop((own c M q S₀ G) ∗ ((own c M q S₀ G) -∗ St m ρ K c n r s P R)) := by
    unfold St Core
    rw [stars_erase (fun t => keepP m ρ t c) h₀, e₀]
    iintro ⟨#Hl, #Hr, HO, Hf, ⟨H1, H2, H3, H4, H5, H6, H7, Ha, H8⟩, HR⟩
    isplitl [Ha]; · iexact Ha
    iintro Ha
    isplitr; · iexact Hl
    isplitr; · iexact Hr
    isplitl [HO]; · iexact HO
    isplitl [Hf]; · iexact Hf
    isplitr [HR]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Ha] <;> iassumption
    · iexact HR
  refine hst.trans ?_
  iintro ⟨H, Hb⟩
  iapply (own_load hS) $$ H
  iintro H
  iapply hk
  iapply Hb; iexact H

theorem mem_rowR (t : T) (i : S4096x256.Idx) : i ∈ (rowR t).set ↔ base t ≤ (i 0).val ∧ (i 0).val < base t + 1024 := by
  rw [Rect.mem_set_unit]
  constructor
  · exact fun h => h 0
  · intro h a
    match a with
    | ⟨0, _⟩ => exact h
    | ⟨1, _⟩ => exact ⟨Nat.zero_le _, by have : (i 1).val < 256 := (i 1).isLt; show (i 1).val < 0 + 256; omega⟩

theorem mem_ringR (h : Fin 3) (j s : Fin 2) (i : S3x2x2048x256.Idx) : i ∈ (ringR h j s).set
    ↔ i 0 = h ∧ i 1 = j ∧ s.val * 1024 ≤ (i 2).val ∧ (i 2).val < s.val * 1024 + 1024 := by
  rw [Rect.mem_set_unit]
  constructor
  · intro H
    have h0 : h.val ≤ (i 0).val ∧ (i 0).val < h.val + 1 := H 0
    have h1 : j.val ≤ (i 1).val ∧ (i 1).val < j.val + 1 := H 1
    exact ⟨Fin.ext (by omega), Fin.ext (by omega), H 2⟩
  · rintro ⟨rfl, rfl, h2⟩ a
    match a with
    | ⟨0, _⟩ => exact ⟨Nat.le_refl _, Nat.lt_succ_self _⟩
    | ⟨1, _⟩ => exact ⟨Nat.le_refl _, Nat.lt_succ_self _⟩
    | ⟨2, _⟩ => exact h2
    | ⟨3, _⟩ => exact ⟨Nat.zero_le _, by have : (i 3).val < 256 := (i 3).isLt; show (i 3).val < 0 + 256; omega⟩

theorem mem_slotR (k : Fin 7) (i : S7x512x256.Idx) : i ∈ (slotR k).set ↔ i 0 = k := by
  rw [Rect.mem_set_unit]
  constructor
  · intro H
    have h0 : k.val ≤ (i 0).val ∧ (i 0).val < k.val + 1 := H 0
    exact Fin.ext (by omega)
  · rintro rfl a
    match a with
    | ⟨0, _⟩ => exact ⟨Nat.le_refl _, Nat.lt_succ_self _⟩
    | ⟨1, _⟩ => exact ⟨Nat.zero_le _, by have : (i 1).val < 512 := (i 1).isLt; show (i 1).val < 0 + 512; omega⟩
    | ⟨2, _⟩ => exact ⟨Nat.zero_le _, by have : (i 2).val < 256 := (i 2).isLt; show (i 2).val < 0 + 256; omega⟩

theorem shK_half (d : Fin 2) (j : Fin 2) : (h : Fin 3) → shK (.ring d h j 1) = shK (.ring d h j 0)
  | 0 => rfl
  | 1 => rfl
  | 2 => rfl

/-- Both halves of a piece of a ring buffer are read. -/
theorem ring_load (d : Fin 2) (h : Fin 3) (j : Fin 2) (h₀ : .ring d h j 0 ∈ recvOrder.take r) (h₁ : .ring d h j 1 ∈ (recvOrder.take r).erase (.ring d h j 0))
    {off : Fin 4 → ℕ} (ho : off = ![h.val, j.val, 0, 0]) {inb : ∀ a, off a + S1x1x2048x256.size a ≤ S3x2x2048x256.size a}
    {hl : (ringM d).view.LoadsAt (Rect.unit (s := S3x2x2048x256) off S1x1x2048x256.size inb).toLoadRect}
    {k : (S1x1x2048x256.Idx → Elt F .fp8e5m2) → Prog (TpuEff nD τ sig (Elt F) Λ₀ .tc) α}
    (hk : St m ρ K c n r s P R ⊢ Wp c (k (half4 m ρ (orig (.ring d h j 0) c) (d.val * 2048))) Q) :
    St m ρ K c n r s P R ⊢ Wp c (.op (.load (ringM d) (Rect.unit (s := S3x2x2048x256) off S1x1x2048x256.size inb).toLoadRect hl) k) Q := by
  subst ho
  have hx : ∀ x : S1x1x2048x256.Idx, (Rect.unit (s := S3x2x2048x256) ![h.val, j.val, 0, 0] S1x1x2048x256.size inb).toLoadRect.idx x = ix4 h j (x 2) (x 3) := by
    intro x
    have h0 : (x 0).val < 1 := (x 0).isLt
    have h1 : (x 1).val < 1 := (x 1).isLt
    funext a
    match a with
    | ⟨0, _⟩ => exact Fin.ext (by show h.val + 1 * (x 0).val = h.val; omega)
    | ⟨1, _⟩ => exact Fin.ext (by show j.val + 1 * (x 1).val = j.val; omega)
    | ⟨2, _⟩ => exact Fin.ext (by show 0 + 1 * (x 2).val = (x 2).val; omega)
    | ⟨3, _⟩ => exact Fin.ext (by show 0 + 1 * (x 3).val = (x 3).val; omega)
  refine keep_load2 (M := ringM d) (.ring d h j 0) (.ring d h j 1) h₀ h₁ (keep_ring d h j 0) (by rw [keep_ring, shK_half]) ?_ ?_ ?_
  · rw [Finset.disjoint_left]
    intro i hi hi'
    have := ((mem_ringR _ _ _ _).mp hi).2.2.2
    have := ((mem_ringR _ _ _ _).mp hi').2.2.1
    simp at *; omega
  · intro x
    rw [hx]
    have h2 : (x 2).val < 2048 := (x 2).isLt
    by_cases hlt : (x 2).val < 1024
    · exact Finset.mem_union_left _ ((mem_ringR _ _ _ _).mpr ⟨rfl, rfl, by show 0 * 1024 ≤ (x 2).val; omega, by show (x 2).val < 0 * 1024 + 1024; omega⟩)
    · exact Finset.mem_union_right _ ((mem_ringR _ _ _ _).mpr ⟨rfl, rfl, by show 1 * 1024 ≤ (x 2).val; omega, by show (x 2).val < 1 * 1024 + 1024; omega⟩)
  · rw [show (fun x => Gring m ρ d c ((Rect.unit (s := S3x2x2048x256) ![h.val, j.val, 0, 0] S1x1x2048x256.size inb).toLoadRect.idx x))
      = half4 m ρ (orig (.ring d h j 0) c) (d.val * 2048) from funext fun x => by rw [hx]; rfl]
    exact hk

/-- Half of what came from across is read. -/
theorem mate_load (b : ℕ) (t₀ t₁ : Fin 4) (hb₀ : base (.z t₀) = b) (hb₁ : base (.z t₁) = b + 1024) (h₀ : .z t₀ ∈ recvOrder.take r) (h₁ : .z t₁ ∈ (recvOrder.take r).erase (.z t₀))
    {off : Fin 2 → ℕ} (ho : off = ![b, 0]) {inb : ∀ a, off a + S2048x256.size a ≤ S4096x256.size a}
    {hl : mateM.view.LoadsAt (Rect.unit (s := S4096x256) off S2048x256.size inb).toLoadRect}
    {k : (S2048x256.Idx → Elt F .fp8e5m2) → Prog (TpuEff nD τ sig (Elt F) Λ₀ .tc) α}
    (hk : St m ρ K c n r s P R ⊢ Wp c (k (whalf m ρ (cross c 0) b)) Q) :
    St m ρ K c n r s P R ⊢ Wp c (.op (.load mateM (Rect.unit (s := S4096x256) off S2048x256.size inb).toLoadRect hl) k) Q := by
  subst ho
  have hb : b + 2048 ≤ 4096 := inb 0
  have hx : ∀ x : S2048x256.Idx, (Rect.unit (s := S4096x256) ![b, 0] S2048x256.size inb).toLoadRect.idx x = ix2 (row b (x 0).val) (x 1) := by
    intro x
    have h0 : (x 0).val < 2048 := (x 0).isLt
    funext a
    match a with
    | ⟨0, _⟩ => exact Fin.ext (by show b + 1 * (x 0).val = (b + (x 0).val) % 4096; omega)
    | ⟨1, _⟩ => exact Fin.ext (by show 0 + 1 * (x 1).val = (x 1).val; omega)
  refine keep_load2 (M := mateM) (.z t₀) (.z t₁) h₀ h₁ (keep_z t₀) (keep_z t₁) ?_ ?_ ?_
  · rw [Finset.disjoint_left]
    intro i hi hi'
    have := ((mem_rowR _ _).mp hi).2
    have := ((mem_rowR _ _).mp hi').1
    omega
  · intro x
    rw [hx]
    have h2 : (x 0).val < 2048 := (x 0).isLt
    have e : (b + (x 0).val) % 4096 = b + (x 0).val := Nat.mod_eq_of_lt (by omega)
    by_cases hlt : (x 0).val < 1024
    · exact Finset.mem_union_left _ ((mem_rowR _ _).mpr ⟨by show base (.z t₀) ≤ (b + (x 0).val) % 4096; omega, by show (b + (x 0).val) % 4096 < base (.z t₀) + 1024; omega⟩)
    · exact Finset.mem_union_right _ ((mem_rowR _ _).mpr ⟨by show base (.z t₁) ≤ (b + (x 0).val) % 4096; omega, by show (b + (x 0).val) % 4096 < base (.z t₁) + 1024; omega⟩)
  · rw [show (fun x => Gmate m ρ c ((Rect.unit (s := S4096x256) ![b, 0] S2048x256.size inb).toLoadRect.idx x))
      = whalf m ρ (cross c 0) b from funext fun x => by rw [hx]; rfl]
    exact hk

/-- A finished block that came is read. -/
theorem rcv_load (k' : Fin 7) (h₀ : .res k' ∈ recvOrder.take r)
    {off : Fin 3 → ℕ} (ho : off = ![k'.val, 0, 0]) {inb : ∀ a, off a + S1x512x256.size a ≤ S7x512x256.size a}
    {hl : rcvM.view.LoadsAt (Rect.unit (s := S7x512x256) off S1x512x256.size inb).toLoadRect}
    {k : (S1x512x256.Idx → Elt F .bf16) → Prog (TpuEff nD τ sig (Elt F) Λ₀ .tc) α}
    (hk : St m ρ K c n r s P R ⊢ Wp c (k (res3 m ρ (snd (.res k') c) c)) Q) :
    St m ρ K c n r s P R ⊢ Wp c (.op (.load rcvM (Rect.unit (s := S7x512x256) off S1x512x256.size inb).toLoadRect hl) k) Q := by
  subst ho
  refine keep_load1 (M := rcvM) (.res k') h₀ (keep_res k') (fun x => (slotR k').toLoadRect.idx_mem x) ?_
  rw [show (fun x => Grcv m ρ c ((Rect.unit (s := S7x512x256) ![k'.val, 0, 0] S1x512x256.size inb).toLoadRect.idx x))
      = res3 m ρ (snd (.res k') c) c from funext fun x => by
        rw [show (Rect.unit (s := S7x512x256) ![k'.val, 0, 0] S1x512x256.size inb).toLoadRect.idx x = ix3 k' (x 1) (x 2) from slotR_idx k' x]
        show res3 m ρ (snd (.res k') c) c (ix3 0 (x 1) (x 2)) = _
        exact congrArg _ (ix3_first x).symm]
  exact hk

/-- A load from a buffer held whole beside the protocol. -/
theorem rest_load {sp : CoreSpace} {sh : Shape} {e : EltTy} {M : Memref sig .tc sp sh e} {q : PosShare TreeShare} {S₀ : Finset sh.Idx} {G : sh.Idx → Elt F e}
    (hR : R ⊢ iprop(own c M q S₀ G ∗ (own c M q S₀ G -∗ R)))
    {lr : LoadRect sh} (hS : ∀ x, lr.idx x ∈ S₀) {hl : M.view.LoadsAt lr} {k : (lr.shape.Idx → Elt F e) → Prog (TpuEff nD τ sig (Elt F) Λ₀ .tc) α}
    (hk : St m ρ K c n r s P R ⊢ Wp c (k fun x => G (lr.idx x)) Q) :
    St m ρ K c n r s P R ⊢ Wp c (.op (.load M lr hl) k) Q := by
  have hst : St m ρ K c n r s P R ⊢ iprop((own c M q S₀ G) ∗ ((own c M q S₀ G) -∗ St m ρ K c n r s P R)) := by
    unfold St
    iintro ⟨#Hl, #Hr, HO, Hf, HC, HR⟩
    ihave HR := hR $$ HR
    icases HR with ⟨H, HR⟩
    isplitl [H]; · iexact H
    iintro H
    isplitr; · iexact Hl
    isplitr; · iexact Hr
    isplitl [HO]; · iexact HO
    isplitl [Hf]; · iexact Hf
    isplitl [HC]; · iexact HC
    iapply HR; iexact H
  refine hst.trans ?_
  iintro ⟨H, Hb⟩
  iapply (own_load hS) $$ H
  iintro H
  iapply hk
  iapply Hb; iexact H

theorem rest_x16 : Rest m ρ c Y Fr O ⊢ iprop(own c x16M fullShare Finset.univ Y ∗ (own c x16M fullShare Finset.univ Y -∗ Rest m ρ c Y Fr O)) := by
  unfold Rest
  iintro ⟨H1, H2, H3, H4⟩
  isplitl [H3]; · iexact H3
  iintro H3
  isplitl [H1]; · iexact H1
  isplitl [H2]; · iexact H2
  isplitl [H3] <;> iassumption

theorem rest_w : Rest m ρ c Y Fr O ⊢ iprop(own c wM fullShare.right.right Finset.univ (W m ρ c) ∗ (own c wM fullShare.right.right Finset.univ (W m ρ c) -∗ Rest m ρ c Y Fr O)) := by
  unfold Rest
  iintro ⟨H1, H2, H3, H4, H5, H6⟩
  isplitl [H5]; · iexact H5
  iintro H5
  isplitl [H1]; · iexact H1
  isplitl [H2]; · iexact H2
  isplitl [H3]; · iexact H3
  isplitl [H4]; · iexact H4
  isplitl [H5] <;> iassumption

theorem rest_x : Rest m ρ c Y Fr O ⊢ iprop(own c xM fullShare Finset.univ (X m ρ c) ∗ (own c xM fullShare Finset.univ (X m ρ c) -∗ Rest m ρ c Y Fr O)) := by
  unfold Rest
  iintro ⟨H1, H2, H3, H4, H5, H6, H7⟩
  isplitl [H6]; · iexact H6
  iintro H6
  isplitl [H1]; · iexact H1
  isplitl [H2]; · iexact H2
  isplitl [H3]; · iexact H3
  isplitl [H4]; · iexact H4
  isplitl [H5]; · iexact H5
  isplitl [H6] <;> iassumption

theorem rest_sx : Rest m ρ c Y Fr O ⊢ iprop(own c (Memref.whole cc0_stg0_0) fullShare Finset.univ (SX m ρ c)
    ∗ (own c (Memref.whole cc0_stg0_0) fullShare Finset.univ (SX m ρ c) -∗ Rest m ρ c Y Fr O)) := by
  unfold Rest
  iintro ⟨H1, H2, H3, H4, H5, H6, H7, H8⟩
  isplitl [H7]; · iexact H7
  iintro H7
  isplitl [H1]; · iexact H1
  isplitl [H2]; · iexact H2
  isplitl [H3]; · iexact H3
  isplitl [H4]; · iexact H4
  isplitl [H5]; · iexact H5
  isplitl [H6]; · iexact H6
  isplitl [H7] <;> iassumption

theorem rest_sw : Rest m ρ c Y Fr O ⊢ iprop(own c (Memref.whole cc0_stg1_0) fullShare Finset.univ (SW m ρ c)
    ∗ (own c (Memref.whole cc0_stg1_0) fullShare Finset.univ (SW m ρ c) -∗ Rest m ρ c Y Fr O)) := by
  unfold Rest
  iintro ⟨H1, H2, H3, H4, H5, H6, H7, H8⟩
  isplitl [H8]; · iexact H8
  iintro H8
  isplitl [H1]; · iexact H1
  isplitl [H2]; · iexact H2
  isplitl [H3]; · iexact H3
  isplitl [H4]; · iexact H4
  isplitl [H5]; · iexact H5
  isplitl [H6]; · iexact H6
  isplitl [H7] <;> iassumption

/-- The whole of a matrix through the rectangle at the origin. -/
theorem idx_whole2 {a b : ℕ} {inb : ∀ i, (![0, 0] : Fin 2 → ℕ) i + (⟨2, ![a, b]⟩ : Shape).size i ≤ (⟨2, ![a, b]⟩ : Shape).size i} (x : (⟨2, ![a, b]⟩ : Shape).Idx) :
    (Rect.unit (s := ⟨2, ![a, b]⟩) ![0, 0] (⟨2, ![a, b]⟩ : Shape).size inb).idx x = x := by
  funext i
  match i with
  | ⟨0, _⟩ => exact Fin.ext (by show 0 + 1 * (x 0).val = (x 0).val; omega)
  | ⟨1, _⟩ => exact Fin.ext (by show 0 + 1 * (x 1).val = (x 1).val; omega)

theorem idx_half (b : ℕ) {inb : ∀ i, (![0, b] : Fin 2 → ℕ) i + S512x2048.size i ≤ S512x4096.size i} (x : S512x2048.Idx) :
    (Rect.unit (s := S512x4096) ![0, b] S512x2048.size inb).idx x = ix2 (x 0) (row b (x 1).val) := by
  have h1 : (x 1).val < 2048 := (x 1).isLt
  have hb : b + 2048 ≤ 4096 := inb 1
  funext i
  match i with
  | ⟨0, _⟩ => exact Fin.ext (by show 0 + 1 * (x 0).val = (x 0).val; omega)
  | ⟨1, _⟩ => exact Fin.ext (by show b + 1 * (x 1).val = (b + (x 1).val) % 4096; omega)

/-- The rows of `x` in bf16, whole, their left half, their right half. -/
theorem x16_load {inb} {hl : x16M.view.LoadsAt (Rect.unit (s := S512x4096) ![0, 0] S512x4096.size inb).toLoadRect} {k : (S512x4096.Idx → Elt F .bf16) → Prog (TpuEff nD τ sig (Elt F) Λ₀ .tc) α}
    (hk : St m ρ K c n r s P (Rest m ρ c Y Fr O) ⊢ Wp c (k Y) Q) :
    St m ρ K c n r s P (Rest m ρ c Y Fr O) ⊢ Wp c (.op (.load x16M (Rect.unit (s := S512x4096) ![0, 0] S512x4096.size inb).toLoadRect hl) k) Q := by
  refine rest_load (M := x16M) rest_x16 (fun x => Finset.mem_univ _) ?_
  rw [show (fun x => Y ((Rect.unit (s := S512x4096) ![0, 0] S512x4096.size inb).toLoadRect.idx x)) = Y from funext fun x => congrArg Y (idx_whole2 x)]
  exact hk
theorem xl_load {inb} {hl : x16M.view.LoadsAt (Rect.unit (s := S512x4096) ![0, 0] S512x2048.size inb).toLoadRect} {k : (S512x2048.Idx → Elt F .bf16) → Prog (TpuEff nD τ sig (Elt F) Λ₀ .tc) α}
    (hk : St m ρ K c n r s P (Rest m ρ c (x16V m ρ c) Fr O) ⊢ Wp c (k (xl m ρ c)) Q) :
    St m ρ K c n r s P (Rest m ρ c (x16V m ρ c) Fr O) ⊢ Wp c (.op (.load x16M (Rect.unit (s := S512x4096) ![0, 0] S512x2048.size inb).toLoadRect hl) k) Q := by
  refine rest_load (M := x16M) rest_x16 (fun x => Finset.mem_univ _) ?_
  rw [show (fun x => x16V m ρ c ((Rect.unit (s := S512x4096) ![0, 0] S512x2048.size inb).toLoadRect.idx x)) = xl m ρ c from funext fun x => congrArg _ (idx_half 0 x)]
  exact hk
theorem xr_load {inb} {hl : x16M.view.LoadsAt (Rect.unit (s := S512x4096) ![0, 2048] S512x2048.size inb).toLoadRect} {k : (S512x2048.Idx → Elt F .bf16) → Prog (TpuEff nD τ sig (Elt F) Λ₀ .tc) α}
    (hk : St m ρ K c n r s P (Rest m ρ c (x16V m ρ c) Fr O) ⊢ Wp c (k (xr m ρ c)) Q) :
    St m ρ K c n r s P (Rest m ρ c (x16V m ρ c) Fr O) ⊢ Wp c (.op (.load x16M (Rect.unit (s := S512x4096) ![0, 2048] S512x2048.size inb).toLoadRect hl) k) Q := by
  refine rest_load (M := x16M) rest_x16 (fun x => Finset.mem_univ _) ?_
  rw [show (fun x => x16V m ρ c ((Rect.unit (s := S512x4096) ![0, 2048] S512x2048.size inb).toLoadRect.idx x)) = xr m ρ c from funext fun x => congrArg _ (idx_half 2048 x)]
  exact hk

/-- The staged blocks. -/
theorem w_load {inb} {hl : wM.view.LoadsAt (Rect.unit (s := S4096x256) ![0, 0] S4096x256.size inb).toLoadRect} {k : (S4096x256.Idx → Elt F .fp8e5m2) → Prog (TpuEff nD τ sig (Elt F) Λ₀ .tc) α}
    (hk : St m ρ K c n r s P (Rest m ρ c Y Fr O) ⊢ Wp c (k (W m ρ c)) Q) :
    St m ρ K c n r s P (Rest m ρ c Y Fr O) ⊢ Wp c (.op (.load wM (Rect.unit (s := S4096x256) ![0, 0] S4096x256.size inb).toLoadRect hl) k) Q := by
  refine rest_load (M := wM) rest_w (fun x => Finset.mem_univ _) ?_
  rw [show (fun x => W m ρ c ((Rect.unit (s := S4096x256) ![0, 0] S4096x256.size inb).toLoadRect.idx x)) = W m ρ c from funext fun x => congrArg _ (idx_whole2 x)]
  exact hk
theorem x_load {inb} {hl : xM.view.LoadsAt (Rect.unit (s := S512x4096) ![0, 0] S512x4096.size inb).toLoadRect} {k : (S512x4096.Idx → Elt F .fp8e4m3) → Prog (TpuEff nD τ sig (Elt F) Λ₀ .tc) α}
    (hk : St m ρ K c n r s P (Rest m ρ c Y Fr O) ⊢ Wp c (k (X m ρ c)) Q) :
    St m ρ K c n r s P (Rest m ρ c Y Fr O) ⊢ Wp c (.op (.load xM (Rect.unit (s := S512x4096) ![0, 0] S512x4096.size inb).toLoadRect hl) k) Q := by
  refine rest_load (M := xM) rest_x (fun x => Finset.mem_univ _) ?_
  rw [show (fun x => X m ρ c ((Rect.unit (s := S512x4096) ![0, 0] S512x4096.size inb).toLoadRect.idx x)) = X m ρ c from funext fun x => congrArg _ (idx_whole2 x)]
  exact hk

theorem S1_eq (i : S1.Idx) : i = ix1 (0 : Fin 1) := by
  funext a
  match a with
  | ⟨0, _⟩ => exact Fin.ext (by have : (i 0).val < 1 := (i 0).isLt; show (i 0).val = 0; omega)

/-- The words of scalar memory. -/
theorem sx_load {lr : LoadRect S1} {hl : (Memref.whole cc0_stg0_0 : Memref sig .tc .smem S1 .f32).view.LoadsAt lr} {k : (lr.shape.Idx → Elt F .f32) → Prog (TpuEff nD τ sig (Elt F) Λ₀ .tc) α}
    (hk : St m ρ K c n r s P (Rest m ρ c Y Fr O) ⊢ Wp c (k fun _ => SX m ρ c (ix1 0)) Q) :
    St m ρ K c n r s P (Rest m ρ c Y Fr O) ⊢ Wp c (.op (.load (Memref.whole cc0_stg0_0) lr hl) k) Q := by
  refine rest_load (M := Memref.whole cc0_stg0_0) rest_sx (fun x => Finset.mem_univ _) ?_
  have e : (fun x => SX m ρ c (lr.idx x)) = fun _ => SX m ρ c (ix1 0) := funext fun x => congrArg _ (S1_eq _)
  exact (congrArg (fun v => St m ρ K c n r s P (Rest m ρ c Y Fr O) ⊢ Wp c (k v) Q) e).mpr hk
theorem sw_load {lr : LoadRect S1} {hl : (Memref.whole cc0_stg1_0 : Memref sig .tc .smem S1 .f32).view.LoadsAt lr} {k : (lr.shape.Idx → Elt F .f32) → Prog (TpuEff nD τ sig (Elt F) Λ₀ .tc) α}
    (hk : St m ρ K c n r s P (Rest m ρ c Y Fr O) ⊢ Wp c (k fun _ => SW m ρ c (ix1 0)) Q) :
    St m ρ K c n r s P (Rest m ρ c Y Fr O) ⊢ Wp c (.op (.load (Memref.whole cc0_stg1_0) lr hl) k) Q := by
  refine rest_load (M := Memref.whole cc0_stg1_0) rest_sw (fun x => Finset.mem_univ _) ?_
  have e : (fun x => SW m ρ c (lr.idx x)) = fun _ => SW m ρ c (ix1 0) := funext fun x => congrArg _ (S1_eq _)
  exact (congrArg (fun v => St m ρ K c n r s P (Rest m ρ c Y Fr O) ⊢ Wp c (k v) Q) e).mpr hk

/-- The bf16 rows of `x` are written. -/
theorem x16_store {inb} {w : S512x4096.Idx → Elt F .bf16} {hx : (x16M.access (Rect.unit (s := S512x4096) ![0, 0] S512x4096.size inb)).Stores Finset.univ}
    {hm} {k : PUnit → Prog (TpuEff nD τ sig (Elt F) Λ₀ .tc) α}
    (hk : St m ρ K c n r s P (Rest m ρ c w Fr O) ⊢ Wp c (k ⟨⟩) Q) :
    St m ρ K c n r s P (Rest m ρ c Y Fr O) ⊢ Wp c (.op (.store x16M (Rect.unit (s := S512x4096) ![0, 0] S512x4096.size inb) w Finset.univ hx hm) k) Q := by
  refine BIBase.Entails.trans (Q := iprop(own c x16M fullShare Finset.univ Y ∗ (own c x16M fullShare Finset.univ w -∗ St m ρ K c n r s P (Rest m ρ c w Fr O)))) ?_ ?_
  · unfold St Rest
    iintro ⟨#Hl, #Hr, HO, Hf, HC, H1, H2, H3, H4⟩
    isplitl [H3]; · iexact H3
    iintro H3
    isplitr; · iexact Hl
    isplitr; · iexact Hr
    isplitl [HO]; · iexact HO
    isplitl [Hf]; · iexact Hf
    isplitl [HC]; · iexact HC
    isplitl [H1]; · iexact H1
    isplitl [H2]; · iexact H2
    isplitl [H3] <;> iassumption
  · iintro ⟨H, Hb⟩
    iapply (own_store (M := x16M) (X := Y) (Y := w) (fun i _ => Finset.mem_univ i) (fun x => congrArg w (idx_whole2 x)) (fun i _ hi => absurd (by
      rw [← idx_whole2 (inb := inb) i]; exact (Rect.unit (s := S512x4096) ![0, 0] S512x4096.size inb).toLoadRect.idx_mem i) hi)) $$ H
    iintro H
    iapply hk
    iapply Hb; iexact H

/-- A slot not yet computed is read, whatever it holds; -/
theorem slot_load (k' : Fin 7) (hf : k' ∈ Fr) {off : Fin 3 → ℕ} (ho : off = ![k'.val, 0, 0]) {inb : ∀ a, off a + S1x512x256.size a ≤ S7x512x256.size a}
    {hl : resM.view.LoadsAt (Rect.unit (s := S7x512x256) off S1x512x256.size inb).toLoadRect}
    {k : (S1x512x256.Idx → Elt F .bf16) → Prog (TpuEff nD τ sig (Elt F) Λ₀ .tc) α}
    (hk : ∀ v, St m ρ K c n r s P (Rest m ρ c Y Fr O) ⊢ Wp c (k v) Q) :
    St m ρ K c n r s P (Rest m ρ c Y Fr O) ⊢ Wp c (.op (.load resM (Rect.unit (s := S7x512x256) off S1x512x256.size inb).toLoadRect hl) k) Q := by
  subst ho
  refine BIBase.Entails.trans (Q := iprop(∃ Z, own c resM fullShare (slotR k').set Z ∗ (own c resM fullShare (slotR k').set Z -∗ St m ρ K c n r s P (Rest m ρ c Y Fr O)))) ?_ ?_
  · unfold St Rest
    rw [stars_erase (slotFree c) hf]
    unfold slotFree
    iintro ⟨#Hl, #Hr, HO, Hf, HC, H1, ⟨⟨%Z, HZ⟩, H2⟩, H3⟩
    iexists Z
    isplitl [HZ]; · iexact HZ
    iintro HZ
    isplitr; · iexact Hl
    isplitr; · iexact Hr
    isplitl [HO]; · iexact HO
    isplitl [Hf]; · iexact Hf
    isplitl [HC]; · iexact HC
    isplitl [H1]; · iexact H1
    isplitr [H3]
    · isplitl [HZ]
      · iexists Z; iexact HZ
      · iexact H2
    · iexact H3
  · iintro ⟨%Z, H, Hb⟩
    iapply (own_load (M := resM) (S := (slotR k').set) (fun x => (slotR k').toLoadRect.idx_mem x)) $$ H
    iintro H
    iapply hk
    iapply Hb; iexact H

/-- and its block is written: it can be sent. -/
theorem slot_store (k' : Fin 7) (hf : k' ∈ Fr) {off : Fin 3 → ℕ} (ho : off = ![k'.val, 0, 0]) {inb : ∀ a, off a + S1x512x256.size a ≤ S7x512x256.size a}
    {w : S1x512x256.Idx → Elt F .bf16} (hw : w = res3 m ρ c (tgt (.res k') c)) {hx : (resM.access (Rect.unit (s := S7x512x256) off S1x512x256.size inb)).Stores Finset.univ}
    {hm} {k : PUnit → Prog (TpuEff nD τ sig (Elt F) Λ₀ .tc) α}
    (hk : St m ρ K c n r s (.res k' :: P) (Rest m ρ c Y (Fr.erase k') O) ⊢ Wp c (k ⟨⟩) Q) :
    St m ρ K c n r s P (Rest m ρ c Y Fr O) ⊢ Wp c (.op (.store resM (Rect.unit (s := S7x512x256) off S1x512x256.size inb) w Finset.univ hx hm) k) Q := by
  subst ho
  refine BIBase.Entails.trans (Q := iprop(∃ Z, own c resM fullShare (slotR k').set Z
    ∗ (own c resM fullShare (slotR k').set (Gres m ρ c) -∗ St m ρ K c n r s (.res k' :: P) (Rest m ρ c Y (Fr.erase k') O)))) ?_ ?_
  · unfold St Rest Core
    rw [stars_erase (slotFree c) hf, stars_cons, src_res]
    unfold slotFree
    iintro ⟨#Hl, #Hr, HO, Hf, ⟨C1, C2, C3, C4, C5, C6, C7⟩, H1, ⟨⟨%Z, HZ⟩, H2⟩, H3⟩
    iexists Z
    isplitl [HZ]; · iexact HZ
    iintro HZ
    isplitr; · iexact Hl
    isplitr; · iexact Hr
    isplitl [HO]; · iexact HO
    isplitl [Hf]; · iexact Hf
    isplitr [H1 H2 H3]
    · isplitl [C1]; · iexact C1
      isplitl [C2]; · iexact C2
      isplitl [C3]; · iexact C3
      isplitl [C4]; · iexact C4
      isplitl [C5]; · iexact C5
      isplitl [C6]; · iexact C6
      icases C7 with ⟨C7, C8⟩
      isplitr [C8]
      · isplitl [HZ] <;> iassumption
      · iexact C8
    · isplitl [H1]; · iexact H1
      isplitl [H2] <;> iassumption
  · iintro ⟨%Z, H, Hb⟩
    iapply (own_store (M := resM) (S := (slotR k').set) (X := Z) (Y := Gres m ρ c) (fun i hi => hi) (fun x => by
        rw [hw, show (Rect.unit (s := S7x512x256) ![k'.val, 0, 0] S1x512x256.size inb).idx x = ix3 k' (x 1) (x 2) from slotR_idx k' x]
        show res3 m ρ c (tgt (.res k') c) (ix3 0 (x 1) (x 2)) = _
        exact congrArg _ (ix3_first x).symm) (fun i hi hi' => absurd hi hi')) $$ H
    iintro H
    iapply hk
    iapply Hb; iexact H

theorem mem_blk {e : Dev nD} {inb} (i : S4096x256.Idx) : i ∈ (Rect.unit (s := S4096x256) ![512 * e.val, 0] S512x256.size inb).set ↔ blkOf i = e := by
  rw [Rect.mem_set_unit]
  constructor
  · intro h
    have h0 : 512 * e.val ≤ (i 0).val ∧ (i 0).val < 512 * e.val + 512 := h 0
    exact Fin.ext (by show (i 0).val / 512 = e.val; omega)
  · rintro rfl a
    match a with
    | ⟨0, _⟩ => exact (show 512 * ((i 0).val / 512) ≤ (i 0).val ∧ (i 0).val < 512 * ((i 0).val / 512) + 512 by omega)
    | ⟨1, _⟩ => exact ⟨Nat.zero_le _, by have : (i 1).val < 256 := (i 1).isLt; show (i 1).val < 0 + 256; omega⟩

/-- A block of the result is read, whatever it holds; -/
theorem out_load {off : Fin 2 → ℕ} {inb : ∀ a, off a + S512x256.size a ≤ S4096x256.size a}
    {hl : outM.view.LoadsAt (Rect.unit (s := S4096x256) off S512x256.size inb).toLoadRect}
    {k : (S512x256.Idx → Elt F .f32) → Prog (TpuEff nD τ sig (Elt F) Λ₀ .tc) α}
    (hk : ∀ v, St m ρ K c n r s P (Rest m ρ c Y Fr O) ⊢ Wp c (k v) Q) :
    St m ρ K c n r s P (Rest m ρ c Y Fr O) ⊢ Wp c (.op (.load outM (Rect.unit (s := S4096x256) off S512x256.size inb).toLoadRect hl) k) Q := by
  refine BIBase.Entails.trans (Q := iprop(∃ f, own c outM fullShare Finset.univ f ∗ (own c outM fullShare Finset.univ f -∗ St m ρ K c n r s P (Rest m ρ c Y Fr O)))) ?_ ?_
  · unfold St Rest OutP
    iintro ⟨#Hl, #Hr, HO, Hf, HC, H1, H2, H3, ⟨%f, %hf, HZ⟩, H4⟩
    iexists f
    isplitl [HZ]; · iexact HZ
    iintro HZ
    isplitr; · iexact Hl
    isplitr; · iexact Hr
    isplitl [HO]; · iexact HO
    isplitl [Hf]; · iexact Hf
    isplitl [HC]; · iexact HC
    isplitl [H1]; · iexact H1
    isplitl [H2]; · iexact H2
    isplitl [H3]; · iexact H3
    isplitr [H4]
    · iexists f
      isplitr
      · ipureintro; exact hf
      · iexact HZ
    · iexact H4
  · iintro ⟨%Z, H, Hb⟩
    iapply (own_load (M := outM) (fun x => Finset.mem_univ _)) $$ H
    iintro H
    iapply hk
    iapply Hb; iexact H

/-- and written. -/
theorem out_store (e : Dev nD) {off : Fin 2 → ℕ} (ho : off = ![512 * e.val, 0]) {inb : ∀ a, off a + S512x256.size a ≤ S4096x256.size a}
    {w : S512x256.Idx → Elt F .f32} (hw : w = outB m ρ c e) {hx : (outM.access (Rect.unit (s := S4096x256) off S512x256.size inb)).Stores Finset.univ}
    {hm} {k : PUnit → Prog (TpuEff nD τ sig (Elt F) Λ₀ .tc) α}
    (hk : St m ρ K c n r s P (Rest m ρ c Y Fr (e :: O)) ⊢ Wp c (k ⟨⟩) Q) :
    St m ρ K c n r s P (Rest m ρ c Y Fr O) ⊢ Wp c (.op (.store outM (Rect.unit (s := S4096x256) off S512x256.size inb) w Finset.univ hx hm) k) Q := by
  subst ho
  refine BIBase.Entails.trans (Q := iprop(∃ f, ⌜∀ i, blkOf i ∈ O → f i = outV m ρ c i⌝ ∗ own c outM fullShare Finset.univ f
    ∗ ((∃ f, ⌜∀ i, blkOf i ∈ e :: O → f i = outV m ρ c i⌝ ∗ own c outM fullShare Finset.univ f) -∗ St m ρ K c n r s P (Rest m ρ c Y Fr (e :: O))))) ?_ ?_
  · unfold St Rest OutP
    iintro ⟨#Hl, #Hr, HO, Hf, HC, H1, H2, H3, ⟨%f, %hf, HZ⟩, H4⟩
    iexists f
    isplitr; · ipureintro; exact hf
    isplitl [HZ]; · iexact HZ
    iintro HZ
    isplitr; · iexact Hl
    isplitr; · iexact Hr
    isplitl [HO]; · iexact HO
    isplitl [Hf]; · iexact Hf
    isplitl [HC]; · iexact HC
    isplitl [H1]; · iexact H1
    isplitl [H2]; · iexact H2
    isplitl [H3]; · iexact H3
    isplitl [HZ] <;> iassumption
  · iintro ⟨%Z, %hZ, H, Hb⟩
    iapply (own_store (M := outM) (X := Z) (Y := fun i => if blkOf i = e then outV m ρ c i else Z i) (fun i _ => Finset.mem_univ i) (fun x => by
        have hx0 : (x 0).val < 512 := (x 0).isLt
        have he : blkOf ((Rect.unit (s := S4096x256) ![512 * e.val, 0] S512x256.size inb).idx x) = e :=
          (mem_blk _).mp ((Rect.unit (s := S4096x256) ![512 * e.val, 0] S512x256.size inb).toLoadRect.idx_mem x)
        show (if blkOf ((Rect.unit (s := S4096x256) ![512 * e.val, 0] S512x256.size inb).idx x) = e then _ else _) = _
        rw [if_pos he, hw]
        unfold outV
        rw [he]
        congr 1
        funext a
        match a with
        | ⟨0, _⟩ => exact Fin.ext (by show (512 * e.val + 1 * (x 0).val) % 512 = (x 0).val; omega)
        | ⟨1, _⟩ => exact Fin.ext (by show 0 + 1 * (x 1).val = (x 1).val; omega))
      (fun i _ hi => if_neg fun he => hi ((mem_blk i).mpr he))) $$ H
    iintro H
    iapply hk
    iapply Hb
    iexists _
    isplitr [H]
    rotate_left
    · iexact H
    · ipureintro
      intro i hi
      by_cases he : blkOf i = e
      · exact if_pos he
      · exact (if_neg he).trans (hZ i ((List.mem_cons.mp hi).resolve_left he))

end Cert.MM
-- ==== Proof.Blocks.lean ====
/-
# What the body computes

The values and the places of the blocks that device `c` computes, as the loads and stores of `Mem` ask for them.
-/
module

public import proofs.«01_k».proof.Proof.Mem

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

/-! ## Values -/

theorem cast_half (e : Dev nD) (b : ℕ) (h : S1x1x2048x256.ShapeCasts S2048x256) :
    shapeCast S2048x256 (half4 m ρ e b) h = whalf m ρ e b := by
  funext x
  obtain ⟨y, rfl⟩ : ∃ y : S2048x256.Idx, y = x := ⟨x, rfl⟩
  have e₁ : Shape.reshapeEquiv h y = ix4 (0 : Fin 1) (0 : Fin 1) (y 0) (y 1) :=
    (congrArg _ (eq_ix2 y)).trans (reshapeEquiv_ix2_11ab (a := 2048) (b := 256) _ (y 0) (y 1))
  exact congrArg (half4 m ρ e b) e₁

/-- The block a device computes for another from two halves of its `w` that came by the rings, as the part that
    computes it in one go does; -/
theorem block_of (e : Dev nD) (h h' : S1x1x2048x256.ShapeCasts S2048x256) :
    k0_pay5 (sc m ρ c) (shapeCast S2048x256 (half4 m ρ e 0) h) (shapeCast S2048x256 (half4 m ρ e 2048) h') (xl m ρ c) (xr m ρ c) = res3 m ρ c e := by
  rw [cast_half, cast_half]; rfl

theorem block6 (e : Dev nD) : k0_pay6 (sc m ρ c) (half4 m ρ e 0) (half4 m ρ e 2048) (xl m ρ c) (xr m ρ c) = res3 m ρ c e := block_of e _ _
theorem block8 (e : Dev nD) : k0_pay8 (k0_pay7 (sc m ρ c) (half4 m ρ e 0) (half4 m ρ e 2048) (xl m ρ c) (xr m ρ c)) = res3 m ρ c e := block_of e _ _
theorem block10 (e : Dev nD) : k0_pay10 (sc m ρ c) (k0_pay9 (half4 m ρ e 0)) (half4 m ρ e 2048) (xl m ρ c) (xr m ρ c) = res3 m ρ c e := block_of e _ _
theorem block12 (e : Dev nD) : k0_pay12 (sc m ρ c) (k0_pay11 (half4 m ρ e 0)) (half4 m ρ e 2048) (xl m ρ c) (xr m ρ c) = res3 m ρ c e := block_of e _ _
theorem block13 (e : Dev nD) : k0_pay13 (sc m ρ c) (half4 m ρ e 0) (half4 m ρ e 2048) (xl m ρ c) (xr m ρ c) = res3 m ρ c e := block_of e _ _
theorem block14 (e : Dev nD) : k0_pay14 (sc m ρ c) (half4 m ρ e 0) (half4 m ρ e 2048) (xl m ρ c) (xr m ρ c) = res3 m ρ c e := block_of e _ _

theorem snd_ne (t : T) (c : Dev nD) : snd t c ≠ c := by revert t c; decide +kernel

theorem own_block : k0_pay4 (sc m ρ c) (x16V m ρ c) (W m ρ c) = outB m ρ c c := (if_pos rfl).symm
theorem came_block (k : Fin 7) : k0_pay15 (res3 m ρ (snd (.res k) c) c) = outB m ρ c (snd (.res k) c) :=
  (if_neg (snd_ne (.res k) c)).symm

/-! ## Where the blocks of the result go -/

theorem off2_0 : ∀ c : Dev nD, k0_off2 c 0#32 = ![512 * (snd (.res 0) c).val, 0] := by decide +kernel
theorem off2_1 : ∀ c : Dev nD, k0_off2 c 1#32 = ![512 * (snd (.res 1) c).val, 0] := by decide +kernel
theorem off2_2 : ∀ c : Dev nD, k0_off2 c 2#32 = ![512 * (snd (.res 2) c).val, 0] := by decide +kernel
theorem off3_3 : ∀ c : Dev nD, k0_off3 c 3#32 = ![512 * (snd (.res 3) c).val, 0] := by decide +kernel
theorem off3_4 : ∀ c : Dev nD, k0_off3 c 4#32 = ![512 * (snd (.res 4) c).val, 0] := by decide +kernel
theorem off3_5 : ∀ c : Dev nD, k0_off3 c 5#32 = ![512 * (snd (.res 5) c).val, 0] := by decide +kernel
theorem off4_6 : ∀ c : Dev nD, k0_off4 c = ![512 * (snd (.res 6) c).val, 0] := by decide +kernel

/-- The blocks of the result that are done after `k` of the others' came. -/
def done (c : Dev nD) : ℕ → List (Dev nD)
  | 0 => [c]
  | k + 1 => snd (.res ⟨k % 7, Nat.mod_lt _ (by decide)⟩) c :: done c k

variable (m ρ) in
/-- What is held beside the sources when all has landed. -/
abbrev Landed (c : Dev nD) (R : PP F) : PP F :=
  iprop((stars (fun t => semVal (recvCell t c) 0) recvOrder ∗ stars (fun t => keepP m ρ t c) recvOrder) ∗ R)

theorem done_all : ∀ c e : Dev nD, e ∈ done c 7 := by decide +kernel

end Cert.MM
-- ==== Proof.Body1.lean ====
/-
# The body: the entry handshake and the first product

Each theorem is one stretch of the program, as the generated parts cut it: its effects in order.
-/
module

public import proofs.«01_k».proof.Proof.Blocks

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

variable {R : sProp (MT nD τ sig Unit (Elt F) ℕ UU ℕ)}

variable (m ρ) in
/-- What is held beside the protocol but the entry semaphore. -/
def Rest0 (c : Dev nD) (Y : S512x4096.Idx → Elt F .bf16) (Fr : List (Fin 7)) (O : List (Dev nD)) : PP F :=
  iprop(stars (slotFree c) Fr ∗ own c x16M fullShare Finset.univ Y ∗ OutP m ρ c O
    ∗ own c wM fullShare.right.right Finset.univ (W m ρ c) ∗ own c xM fullShare Finset.univ (X m ρ c)
    ∗ own c (Memref.whole cc0_stg0_0) fullShare Finset.univ (SX m ρ c) ∗ own c (Memref.whole cc0_stg1_0) fullShare Finset.univ (SW m ρ c))

/-- The entry semaphore. -/
abbrev bar0 : Sems sig S_ := SemArray.scalar (sig.barrier 0 rfl)

theorem toInt1 : (1#32 : BitVec 32).toInt = ((1 : ℕ) : ℤ) := rfl
theorem toInt7 : (7#32 : BitVec 32).toInt = ((7 : ℕ) : ℤ) := rfl

theorem part1 {Q} {S : PP F} (hk : ∀ v2 v20 v21 v22 v26 v30 v31 v35 : BitVec 32, S ⊢ Q ⟨c, v2, v20, v21, v22, v26, v30, v31, bar0, v35, 0#32⟩) :
    S ⊢ Wp c (ap (k0_part1 (F := F))) Q := by
  rw [k0_part1_eq_skeleton]; unfold ap k0_part1_skel Wp
  simp only [Prog.lift, Prog.bind_op, Prog.bind_ret, Prog.pure_eq_ret, wp_deviceId]
  exact ret_step (hk _ _ _ _ _ _ _ _)

theorem part2 {Q} (hk : ∀ v v', Bar m ρ K c [7] R ⊢ Q ⟨v, v'⟩) :
    ∀ v v1 v2 : BitVec 32, Bar m ρ K c offs R ⊢ Wp c (ap (k0_part2 (F := F)) c v bar0 v1 v2) Q := by
  intro v v1 v2
  rw [k0_part2_eq_skeleton]; unfold ap k0_part2_skel
  simp only [semSignalWord, Prog.lift, Prog.bind_op, Prog.bind_ret, Prog.pure_eq_ret]
  refine signal_step (Fin.ext (k0_dev1_eq c)) (by decide) rfl ?_
  refine signal_step (Fin.ext (k0_dev2_eq c)) (by decide) rfl ?_
  refine signal_step (Fin.ext (k0_dev3_eq c)) (by decide) rfl ?_
  refine signal_step (Fin.ext (k0_dev4_eq c)) (by decide) rfl ?_
  refine signal_step (Fin.ext (k0_dev5_eq c)) (by decide) rfl ?_
  refine signal_step (Fin.ext (k0_dev6_eq c)) (by decide) rfl ?_
  exact ret_step (hk _ _)

theorem part3 {Y : S512x4096.Idx → Elt F .bf16} {Q}
    (hk : ∀ v, St m ρ K c 3 0 0 [.z 3, .ring 0 0 0 0, .ring 0 0 0 1, .ring 1 0 0 0, .ring 1 0 0 1] (Rest m ρ c Y [0, 1, 2, 3, 4, 5, 6] []) ⊢ Q v) :
    ∀ v v1 v2 : BitVec 32, Bar m ρ K c [7] iprop(Core m ρ c 0 0 0 [.z 0, .z 1, .z 2, .z 3, .ring 0 0 0 0, .ring 0 0 0 1, .ring 1 0 0 0, .ring 1 0 0 1]
        ∗ Rest0 m ρ c Y [0, 1, 2, 3, 4, 5, 6] []) ⊢
      Wp c (ap (k0_part3 (F := F)) c v bar0 v1 v2) Q := by
  intro v v1 v2
  rw [k0_part3_eq_skeleton]; unfold ap k0_part3_skel
  simp only [semSignalWord, semWaitWord, Prog.lift, Prog.bind_op, Prog.bind_ret, Prog.pure_eq_ret]
  refine signal_step (Fin.ext (k0_dev7_eq c)) (by decide) rfl ?_
  refine bar_step rfl ?_
  refine send_step k0_dev8 k0_dev8_lt (.z 0) (by decide +kernel) rfl rfl (by decide) ?_
  refine send_step k0_dev9 k0_dev9_lt (.z 1) (by decide +kernel) rfl rfl (by decide) ?_
  refine send_step k0_dev10 k0_dev10_lt (.z 2) (by decide +kernel) rfl rfl (by decide) ?_
  exact ret_step (hk _)

theorem part4 {Y : S512x4096.Idx → Elt F .bf16} {Q}
    (hk : St m ρ K c 5 0 0 [.ring 0 0 0 1, .ring 1 0 0 0, .ring 1 0 0 1] (Rest m ρ c Y [0, 1, 2, 3, 4, 5, 6] []) ⊢ Q (sc m ρ c)) :
    ∀ v v1 : BitVec 32, St m ρ K c 3 0 0 [.z 3, .ring 0 0 0 0, .ring 0 0 0 1, .ring 1 0 0 0, .ring 1 0 0 1] (Rest m ρ c Y [0, 1, 2, 3, 4, 5, 6] []) ⊢
      Wp c (ap (k0_part4 (F := F)) c v v1) Q := by
  intro v v1
  rw [k0_part4_eq_skeleton]; unfold ap k0_part4_skel
  simp only [smemLoad, smemLoadElt, Prog.lift, Prog.bind_op, Prog.bind_ret, Prog.pure_eq_ret]
  refine send_step k0_dev11 k0_dev11_lt (.z 3) (by decide +kernel) rfl rfl (by decide) ?_
  refine sx_load ?_
  refine sw_load ?_
  refine send_step k0_dev12 k0_dev12_lt (.ring 0 0 0 0) (by decide +kernel) rfl rfl (by decide) ?_
  exact ret_step hk

theorem part5 {Y : S512x4096.Idx → Elt F .bf16} {Q} (hk : St m ρ K c 8 0 0 [] (Rest m ρ c Y [0, 1, 2, 3, 4, 5, 6] []) ⊢ Q (k0_pay2 (X m ρ c))) :
    ∀ v : BitVec 32, St m ρ K c 5 0 0 [.ring 0 0 0 1, .ring 1 0 0 0, .ring 1 0 0 1] (Rest m ρ c Y [0, 1, 2, 3, 4, 5, 6] []) ⊢
      Wp c (ap (k0_part5 (F := F)) c v) Q := by
  intro v
  rw [k0_part5_eq_skeleton]; unfold ap k0_part5_skel
  simp only [Prog.lift, Prog.bind_op, Prog.bind_ret, Prog.pure_eq_ret]
  refine send_step k0_dev13 k0_dev13_lt (.ring 0 0 0 1) (by decide +kernel) rfl rfl (by decide) ?_
  refine send_step k0_dev14 k0_dev14_lt (.ring 1 0 0 0) (by decide +kernel) rfl rfl (by decide) ?_
  refine send_step k0_dev15 k0_dev15_lt (.ring 1 0 0 1) (by decide +kernel) rfl rfl (by decide) ?_
  refine x_load ?_
  exact ret_step hk

theorem part6 {Y : S512x4096.Idx → Elt F .bf16} {Q} (hk : St m ρ K c 8 1 0 [.ring 0 0 1 0] (Rest m ρ c (x16V m ρ c) [0, 1, 2, 3, 4, 5, 6] (done c 0)) ⊢ Q ⟨⟩) :
    ∀ v v1 v2 : BitVec 32, St m ρ K c 8 0 0 [] (Rest m ρ c Y [0, 1, 2, 3, 4, 5, 6] []) ⊢
      Wp c (ap (k0_part6 (F := F)) c v v1 v2 (sc m ρ c) (k0_pay2 (X m ρ c))) Q := by
  intro v v1 v2
  rw [k0_part6_eq_skeleton]; unfold ap k0_part6_skel
  simp only [Prog.lift, Prog.bind_op, Prog.bind_ret, Prog.pure_eq_ret]
  refine x16_load ?_
  refine x16_store ?_
  refine x16_load ?_
  refine w_load ?_
  refine out_load fun _ => ?_
  refine out_store c (k0_off1_eq c) own_block ?_
  refine recv_step (.z 0) rfl rfl (by decide +kernel) rfl ?_
  exact ret_step hk

end Cert.MM
-- ==== Proof.Body2.lean ====
/-
# The body: the first hops

Each theorem is one stretch of the program, as the generated parts cut it: its effects in order.
-/
module

public import proofs.«01_k».proof.Proof.Blocks

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

variable {R : sProp (MT nD τ sig Unit (Elt F) ℕ UU ℕ)}

theorem part7 {Q} (hk : St m ρ K c 10 2 0 [] R ⊢ Q ⟨⟩) :
    ∀ v v1 v2 : BitVec 32, St m ρ K c 8 1 0 [.ring 0 0 1 0] R ⊢
      Wp c (ap (k0_part7 (F := F)) c v v1 v2) Q := by
  intro v v1 v2
  rw [k0_part7_eq_skeleton]; unfold ap k0_part7_skel
  simp only [Prog.lift, Prog.bind_op, Prog.bind_ret, Prog.pure_eq_ret]
  refine send_step k0_dev16 k0_dev16_lt (.ring 0 0 1 0) (by decide +kernel) rfl rfl (by decide) ?_
  refine recv_step (.z 1) rfl rfl (by decide +kernel) rfl ?_
  refine send_step k0_dev17 k0_dev17_lt (.ring 1 0 1 0) (by decide +kernel) rfl rfl (by decide) ?_
  exact ret_step hk

theorem part8 {Q} (hk : St m ρ K c 11 4 0 [.ring 1 1 0 0] R ⊢ Q ⟨⟩) :
    ∀ v v1 : BitVec 32, St m ρ K c 10 2 0 [] R ⊢
      Wp c (ap (k0_part8 (F := F)) c v v1) Q := by
  intro v v1
  rw [k0_part8_eq_skeleton]; unfold ap k0_part8_skel
  simp only [Prog.lift, Prog.bind_op, Prog.bind_ret, Prog.pure_eq_ret]
  refine recv_step (.ring 0 0 0 0) rfl rfl (by decide +kernel) rfl ?_
  refine send_step k0_dev18 k0_dev18_lt (.ring 0 1 0 0) (by decide +kernel) rfl rfl (by decide) ?_
  refine recv_step (.ring 1 0 0 0) rfl rfl (by decide +kernel) rfl ?_
  exact ret_step hk

theorem part9 {Q} (hk : St m ρ K c 13 5 0 [] R ⊢ Q ⟨⟩) :
    ∀ v v1 v2 : BitVec 32, St m ρ K c 11 4 0 [.ring 1 1 0 0] R ⊢
      Wp c (ap (k0_part9 (F := F)) c v v1 v2) Q := by
  intro v v1 v2
  rw [k0_part9_eq_skeleton]; unfold ap k0_part9_skel
  simp only [Prog.lift, Prog.bind_op, Prog.bind_ret, Prog.pure_eq_ret]
  refine send_step k0_dev19 k0_dev19_lt (.ring 1 1 0 0) (by decide +kernel) rfl rfl (by decide) ?_
  refine recv_step (.z 2) rfl rfl (by decide +kernel) rfl ?_
  refine send_step k0_dev20 k0_dev20_lt (.ring 0 0 1 1) (by decide +kernel) rfl rfl (by decide) ?_
  exact ret_step hk

theorem part10 {Q} (hk : St m ρ K c 14 7 0 [.ring 0 1 0 1] R ⊢ Q ⟨⟩) :
    ∀ v v1 v2 : BitVec 32, St m ρ K c 13 5 0 [] R ⊢
      Wp c (ap (k0_part10 (F := F)) c v v1 v2) Q := by
  intro v v1 v2
  rw [k0_part10_eq_skeleton]; unfold ap k0_part10_skel
  simp only [Prog.lift, Prog.bind_op, Prog.bind_ret, Prog.pure_eq_ret]
  refine recv_step (.z 3) rfl rfl (by decide +kernel) rfl ?_
  refine send_step k0_dev21 k0_dev21_lt (.ring 1 0 1 1) (by decide +kernel) rfl rfl (by decide) ?_
  refine recv_step (.ring 0 0 0 1) rfl rfl (by decide +kernel) rfl ?_
  exact ret_step hk

theorem part11 {Q} (hk : ∀ v, St m ρ K c 15 8 0 [.ring 1 1 0 1] R ⊢ Q v) :
    ∀ v v1 : BitVec 32, St m ρ K c 14 7 0 [.ring 0 1 0 1] R ⊢
      Wp c (ap (k0_part11 (F := F)) c v v1) Q := by
  intro v v1
  rw [k0_part11_eq_skeleton]; unfold ap k0_part11_skel
  simp only [Prog.lift, Prog.bind_op, Prog.bind_ret, Prog.pure_eq_ret]
  refine send_step k0_dev22 k0_dev22_lt (.ring 0 1 0 1) (by decide +kernel) rfl rfl (by decide) ?_
  refine recv_step (.ring 1 0 0 1) rfl rfl (by decide +kernel) rfl ?_
  exact ret_step (hk _)

theorem part12 {Q} (hk : St m ρ K c 16 8 0 [.res 6] (Rest m ρ c (x16V m ρ c) [0, 1, 2, 3, 4, 5] (done c 0)) ⊢ Q ⟨⟩) :
    ∀ v v1 : BitVec 32, St m ρ K c 15 8 0 [.ring 1 1 0 1] (Rest m ρ c (x16V m ρ c) [0, 1, 2, 3, 4, 5, 6] (done c 0)) ⊢
      Wp c (ap (k0_part12 (F := F)) c v (sc m ρ c) v1) Q := by
  intro v v1
  rw [k0_part12_eq_skeleton]; unfold ap k0_part12_skel
  simp only [Prog.lift, Prog.bind_op, Prog.bind_ret, Prog.pure_eq_ret]
  refine send_step k0_dev23 k0_dev23_lt (.ring 1 1 0 1) (by decide +kernel) rfl rfl (by decide) ?_
  refine mate_load 0 0 2 rfl rfl (by decide +kernel) (by decide +kernel) rfl ?_
  refine mate_load 2048 1 3 rfl rfl (by decide +kernel) (by decide +kernel) rfl ?_
  refine xl_load ?_
  refine xr_load ?_
  refine slot_load 6 (by decide) rfl fun _ => ?_
  refine slot_store 6 (by decide) rfl (rfl) ?_
  exact ret_step hk

theorem part13 {Q} (hk : St m ρ K c 18 9 0 [] R ⊢ Q ⟨⟩) :
    ∀ v : BitVec 32, St m ρ K c 16 8 0 [.res 6] R ⊢
      Wp c (ap (k0_part13 (F := F)) c v) Q := by
  intro v
  rw [k0_part13_eq_skeleton]; unfold ap k0_part13_skel
  simp only [Prog.lift, Prog.bind_op, Prog.bind_ret, Prog.pure_eq_ret]
  refine send_step k0_dev24 k0_dev24_lt (.res 6) (by decide +kernel) rfl rfl (by decide) ?_
  refine recv_step (.ring 0 0 1 0) rfl rfl (by decide +kernel) rfl ?_
  refine send_step k0_dev25 k0_dev25_lt (.ring 0 1 1 0) (by decide +kernel) rfl rfl (by decide) ?_
  exact ret_step hk

theorem part14 {Q} (hk : St m ρ K c 19 10 0 [] R ⊢ Q ⟨⟩) :
    ∀ v v1 : BitVec 32, St m ρ K c 18 9 0 [] R ⊢
      Wp c (ap (k0_part14 (F := F)) c v v1) Q := by
  intro v v1
  rw [k0_part14_eq_skeleton]; unfold ap k0_part14_skel
  simp only [Prog.lift, Prog.bind_op, Prog.bind_ret, Prog.pure_eq_ret]
  refine recv_step (.ring 1 0 1 0) rfl rfl (by decide +kernel) rfl ?_
  refine send_step k0_dev26 k0_dev26_lt (.ring 1 1 1 0) (by decide +kernel) rfl rfl (by decide) ?_
  exact ret_step hk

theorem part15 {Q} (hk : St m ρ K c 20 12 0 [.ring 1 1 1 1] R ⊢ Q ⟨⟩) :
    ∀ v v1 : BitVec 32, St m ρ K c 19 10 0 [] R ⊢
      Wp c (ap (k0_part15 (F := F)) c v v1) Q := by
  intro v v1
  rw [k0_part15_eq_skeleton]; unfold ap k0_part15_skel
  simp only [Prog.lift, Prog.bind_op, Prog.bind_ret, Prog.pure_eq_ret]
  refine recv_step (.ring 0 0 1 1) rfl rfl (by decide +kernel) rfl ?_
  refine send_step k0_dev27 k0_dev27_lt (.ring 0 1 1 1) (by decide +kernel) rfl rfl (by decide) ?_
  refine recv_step (.ring 1 0 1 1) rfl rfl (by decide +kernel) rfl ?_
  exact ret_step hk

theorem part16 {Q} (hk : St m ρ K c 21 13 0 [.ring 0 2 0 0] R ⊢ Q ⟨⟩) :
    ∀ v v1 : BitVec 32, St m ρ K c 20 12 0 [.ring 1 1 1 1] R ⊢
      Wp c (ap (k0_part16 (F := F)) c v v1) Q := by
  intro v v1
  rw [k0_part16_eq_skeleton]; unfold ap k0_part16_skel
  simp only [Prog.lift, Prog.bind_op, Prog.bind_ret, Prog.pure_eq_ret]
  refine send_step k0_dev28 k0_dev28_lt (.ring 1 1 1 1) (by decide +kernel) rfl rfl (by decide) ?_
  refine recv_step (.ring 0 1 0 0) rfl rfl (by decide +kernel) rfl ?_
  exact ret_step hk

end Cert.MM
-- ==== Proof.Body3.lean ====
/-
# The body: the later hops

Each theorem is one stretch of the program, as the generated parts cut it: its effects in order.
-/
module

public import proofs.«01_k».proof.Proof.Blocks

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

variable {R : sProp (MT nD τ sig Unit (Elt F) ℕ UU ℕ)}

theorem part17 {Q} (hk : St m ρ K c 22 14 0 [.ring 1 2 0 0] R ⊢ Q ⟨⟩) :
    ∀ v : BitVec 32, St m ρ K c 21 13 0 [.ring 0 2 0 0] R ⊢
      Wp c (ap (k0_part17 (F := F)) c v) Q := by
  intro v
  rw [k0_part17_eq_skeleton]; unfold ap k0_part17_skel
  simp only [Prog.lift, Prog.bind_op, Prog.bind_ret, Prog.pure_eq_ret]
  refine send_step k0_dev29 k0_dev29_lt (.ring 0 2 0 0) (by decide +kernel) rfl rfl (by decide) ?_
  refine recv_step (.ring 1 1 0 0) rfl rfl (by decide +kernel) rfl ?_
  exact ret_step hk

theorem part18 {Q} (hk : St m ρ K c 24 15 0 [] R ⊢ Q ⟨⟩) :
    ∀ v : BitVec 32, St m ρ K c 22 14 0 [.ring 1 2 0 0] R ⊢
      Wp c (ap (k0_part18 (F := F)) c v) Q := by
  intro v
  rw [k0_part18_eq_skeleton]; unfold ap k0_part18_skel
  simp only [Prog.lift, Prog.bind_op, Prog.bind_ret, Prog.pure_eq_ret]
  refine send_step k0_dev30 k0_dev30_lt (.ring 1 2 0 0) (by decide +kernel) rfl rfl (by decide) ?_
  refine recv_step (.ring 0 1 0 1) rfl rfl (by decide +kernel) rfl ?_
  refine send_step k0_dev31 k0_dev31_lt (.ring 0 2 0 1) (by decide +kernel) rfl rfl (by decide) ?_
  exact ret_step hk

theorem part19 {Q} (hk : ∀ v, St m ρ K c 25 16 0 [] R ⊢ Q v) :
    ∀ v : BitVec 32, St m ρ K c 24 15 0 [] R ⊢
      Wp c (ap (k0_part19 (F := F)) c v) Q := by
  intro v
  rw [k0_part19_eq_skeleton]; unfold ap k0_part19_skel
  simp only [Prog.lift, Prog.bind_op, Prog.bind_ret, Prog.pure_eq_ret]
  refine recv_step (.ring 1 1 0 1) rfl rfl (by decide +kernel) rfl ?_
  refine send_step k0_dev32 k0_dev32_lt (.ring 1 2 0 1) (by decide +kernel) rfl rfl (by decide) ?_
  exact ret_step (hk _)

theorem part20 {Q} (hk : St m ρ K c 26 17 0 [] R ⊢ Q ⟨⟩) :
    ∀ v v1 v2 : BitVec 32, St m ρ K c 25 16 0 [] R ⊢
      Wp c (ap (k0_part20 (F := F)) c v v1 v2) Q := by
  intro v v1 v2
  rw [k0_part20_eq_skeleton]; unfold ap k0_part20_skel
  simp only [Prog.lift, Prog.bind_op, Prog.bind_ret, Prog.pure_eq_ret]
  refine recv_step (.ring 0 1 1 0) rfl rfl (by decide +kernel) rfl ?_
  refine send_step k0_dev33 k0_dev33_lt (.ring 0 2 1 0) (by decide +kernel) rfl rfl (by decide) ?_
  exact ret_step hk

theorem part21 {Q} (hk : St m ρ K c 27 19 0 [.ring 0 2 1 1] R ⊢ Q ⟨⟩) :
    ∀ v v1 : BitVec 32, St m ρ K c 26 17 0 [] R ⊢
      Wp c (ap (k0_part21 (F := F)) c v v1) Q := by
  intro v v1
  rw [k0_part21_eq_skeleton]; unfold ap k0_part21_skel
  simp only [Prog.lift, Prog.bind_op, Prog.bind_ret, Prog.pure_eq_ret]
  refine recv_step (.ring 1 1 1 0) rfl rfl (by decide +kernel) rfl ?_
  refine send_step k0_dev34 k0_dev34_lt (.ring 1 2 1 0) (by decide +kernel) rfl rfl (by decide) ?_
  refine recv_step (.ring 0 1 1 1) rfl rfl (by decide +kernel) rfl ?_
  exact ret_step hk

theorem part22 {Q} (hk : St m ρ K c 28 20 0 [.ring 1 2 1 1] R ⊢ Q ⟨⟩) :
    ∀ v v1 : BitVec 32, St m ρ K c 27 19 0 [.ring 0 2 1 1] R ⊢
      Wp c (ap (k0_part22 (F := F)) c v v1) Q := by
  intro v v1
  rw [k0_part22_eq_skeleton]; unfold ap k0_part22_skel
  simp only [Prog.lift, Prog.bind_op, Prog.bind_ret, Prog.pure_eq_ret]
  refine send_step k0_dev35 k0_dev35_lt (.ring 0 2 1 1) (by decide +kernel) rfl rfl (by decide) ?_
  refine recv_step (.ring 1 1 1 1) rfl rfl (by decide +kernel) rfl ?_
  exact ret_step hk

theorem part23 {Q} (hk : ∀ v, St m ρ K c 29 20 0 [.res 1] (Rest m ρ c (x16V m ρ c) [0, 2, 3, 4, 5] (done c 0)) ⊢ Q v) :
    ∀ v v1 v2 : BitVec 32, St m ρ K c 28 20 0 [.ring 1 2 1 1] (Rest m ρ c (x16V m ρ c) [0, 1, 2, 3, 4, 5] (done c 0)) ⊢
      Wp c (ap (k0_part23 (F := F)) c v v1 v2 (sc m ρ c)) Q := by
  intro v v1 v2
  rw [k0_part23_eq_skeleton]; unfold ap k0_part23_skel
  simp only [Prog.lift, Prog.bind_op, Prog.bind_ret, Prog.pure_eq_ret]
  refine send_step k0_dev36 k0_dev36_lt (.ring 1 2 1 1) (by decide +kernel) rfl rfl (by decide) ?_
  refine ring_load 0 1 0 (by decide +kernel) (by decide +kernel) rfl ?_
  refine ring_load 1 1 0 (by decide +kernel) (by decide +kernel) rfl ?_
  refine xl_load ?_
  refine xr_load ?_
  refine slot_load 1 (by decide) rfl fun _ => ?_
  refine slot_store 1 (by decide) rfl (block6 (same c 2)) ?_
  exact ret_step (hk _)

theorem part24 {Q} (hk : ∀ v, St m ρ K c 30 20 0 [] (Rest m ρ c (x16V m ρ c) [0, 2, 3, 4, 5] (done c 0)) ⊢ Q ⟨v, k0_pay7 (sc m ρ c) (half4 m ρ (cross c 2) 0) (half4 m ρ (cross c 2) 2048) (xl m ρ c) (xr m ρ c)⟩) :
    ∀ v v1 v2 : BitVec 32, St m ρ K c 29 20 0 [.res 1] (Rest m ρ c (x16V m ρ c) [0, 2, 3, 4, 5] (done c 0)) ⊢
      Wp c (ap (k0_part24 (F := F)) c v v1 (sc m ρ c) v2) Q := by
  intro v v1 v2
  rw [k0_part24_eq_skeleton]; unfold ap k0_part24_skel
  simp only [Prog.lift, Prog.bind_op, Prog.bind_ret, Prog.pure_eq_ret]
  refine send_step k0_dev37 k0_dev37_lt (.res 1) (by decide +kernel) rfl rfl (by decide) ?_
  refine ring_load 0 1 1 (by decide +kernel) (by decide +kernel) rfl ?_
  refine ring_load 1 1 1 (by decide +kernel) (by decide +kernel) rfl ?_
  refine xl_load ?_
  refine xr_load ?_
  refine slot_load 4 (by decide) rfl fun _ => ?_
  exact ret_step (hk _)

theorem part25 {Q} (hk : ∀ v, St m ρ K c 31 21 0 [] (Rest m ρ c (x16V m ρ c) [0, 2, 3, 5] (done c 0)) ⊢ Q v) :
    ∀ v v1 v2 : BitVec 32, St m ρ K c 30 20 0 [] (Rest m ρ c (x16V m ρ c) [0, 2, 3, 4, 5] (done c 0)) ⊢
      Wp c (ap (k0_part25 (F := F)) c v v1 v2 (k0_pay7 (sc m ρ c) (half4 m ρ (cross c 2) 0) (half4 m ρ (cross c 2) 2048) (xl m ρ c) (xr m ρ c))) Q := by
  intro v v1 v2
  rw [k0_part25_eq_skeleton]; unfold ap k0_part25_skel
  simp only [Prog.lift, Prog.bind_op, Prog.bind_ret, Prog.pure_eq_ret]
  refine slot_store 4 (by decide) rfl (block8 (cross c 2)) ?_
  refine send_step k0_dev38 k0_dev38_lt (.res 4) (by decide +kernel) rfl rfl (by decide) ?_
  refine recv_step (.ring 0 2 0 0) rfl rfl (by decide +kernel) rfl ?_
  exact ret_step (hk _)

theorem part26 {Q} (hk : St m ρ K c 31 23 0 [] R ⊢ Q ⟨⟩) :
    ∀ v v1 v2 : BitVec 32, St m ρ K c 31 21 0 [] R ⊢
      Wp c (ap (k0_part26 (F := F)) v v1 v2) Q := by
  intro v v1 v2
  rw [k0_part26_eq_skeleton]; unfold ap k0_part26_skel
  simp only [Prog.lift, Prog.bind_op, Prog.bind_ret, Prog.pure_eq_ret]
  refine recv_step (.ring 1 2 0 0) rfl rfl (by decide +kernel) rfl ?_
  refine recv_step (.ring 0 2 0 1) rfl rfl (by decide +kernel) rfl ?_
  exact ret_step hk

theorem part27 {Q} (hk : St m ρ K c 31 26 0 [] R ⊢ Q ⟨⟩) :
    ∀ v v1 : BitVec 32, St m ρ K c 31 23 0 [] R ⊢
      Wp c (ap (k0_part27 (F := F)) v v1) Q := by
  intro v v1
  rw [k0_part27_eq_skeleton]; unfold ap k0_part27_skel
  simp only [Prog.lift, Prog.bind_op, Prog.bind_ret, Prog.pure_eq_ret]
  refine recv_step (.ring 1 2 0 1) rfl rfl (by decide +kernel) rfl ?_
  refine recv_step (.ring 0 2 1 0) rfl rfl (by decide +kernel) rfl ?_
  refine recv_step (.ring 1 2 1 0) rfl rfl (by decide +kernel) rfl ?_
  exact ret_step hk

end Cert.MM
-- ==== Proof.Body4.lean ====
/-
# The body: the last blocks for the others

Each theorem is one stretch of the program, as the generated parts cut it: its effects in order.
-/
module

public import proofs.«01_k».proof.Proof.Blocks

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

variable {R : sProp (MT nD τ sig Unit (Elt F) ℕ UU ℕ)}

theorem part28 {Q} (hk : ∀ v, St m ρ K c 31 28 0 [] R ⊢ Q ⟨v, k0_pay9 (half4 m ρ (same c 3) 0)⟩) :
    ∀ v v1 v2 v3 : BitVec 32, St m ρ K c 31 26 0 [] R ⊢
      Wp c (ap (k0_part28 (F := F)) v v1 v2 v3) Q := by
  intro v v1 v2 v3
  rw [k0_part28_eq_skeleton]; unfold ap k0_part28_skel
  simp only [Prog.lift, Prog.bind_op, Prog.bind_ret, Prog.pure_eq_ret]
  refine recv_step (.ring 0 2 1 1) rfl rfl (by decide +kernel) rfl ?_
  refine recv_step (.ring 1 2 1 1) rfl rfl (by decide +kernel) rfl ?_
  refine ring_load 0 0 0 (by decide +kernel) (by decide +kernel) rfl ?_
  exact ret_step (hk _)

theorem part29 {Q} (hk : ∀ v, St m ρ K c 32 28 0 [] (Rest m ρ c (x16V m ρ c) [2, 3, 5] (done c 0)) ⊢ Q ⟨v, k0_pay11 (half4 m ρ (cross c 3) 0)⟩) :
    ∀ v v1 v2 : BitVec 32, St m ρ K c 31 28 0 [] (Rest m ρ c (x16V m ρ c) [0, 2, 3, 5] (done c 0)) ⊢
      Wp c (ap (k0_part29 (F := F)) c v v1 (sc m ρ c) v2 (k0_pay9 (half4 m ρ (same c 3) 0))) Q := by
  intro v v1 v2
  rw [k0_part29_eq_skeleton]; unfold ap k0_part29_skel
  simp only [Prog.lift, Prog.bind_op, Prog.bind_ret, Prog.pure_eq_ret]
  refine ring_load 1 2 0 (by decide +kernel) (by decide +kernel) rfl ?_
  refine xl_load ?_
  refine xr_load ?_
  refine slot_load 0 (by decide) rfl fun _ => ?_
  refine slot_store 0 (by decide) rfl (block10 (same c 3)) ?_
  refine send_step k0_dev39 k0_dev39_lt (.res 0) (by decide +kernel) rfl rfl (by decide) ?_
  refine ring_load 0 0 1 (by decide +kernel) (by decide +kernel) rfl ?_
  exact ret_step (hk _)

theorem part30 {Q} (hk : ∀ v, St m ρ K c 33 28 0 [] (Rest m ρ c (x16V m ρ c) [2, 5] (done c 0)) ⊢ Q v) :
    ∀ v v1 v2 : BitVec 32, St m ρ K c 32 28 0 [] (Rest m ρ c (x16V m ρ c) [2, 3, 5] (done c 0)) ⊢
      Wp c (ap (k0_part30 (F := F)) c v v1 (sc m ρ c) v2 (k0_pay11 (half4 m ρ (cross c 3) 0))) Q := by
  intro v v1 v2
  rw [k0_part30_eq_skeleton]; unfold ap k0_part30_skel
  simp only [Prog.lift, Prog.bind_op, Prog.bind_ret, Prog.pure_eq_ret]
  refine ring_load 1 2 1 (by decide +kernel) (by decide +kernel) rfl ?_
  refine xl_load ?_
  refine xr_load ?_
  refine slot_load 3 (by decide) rfl fun _ => ?_
  refine slot_store 3 (by decide) rfl (block12 (cross c 3)) ?_
  refine send_step k0_dev40 k0_dev40_lt (.res 3) (by decide +kernel) rfl rfl (by decide) ?_
  exact ret_step (hk _)

theorem part31 {Q} (hk : ∀ v, St m ρ K c 34 28 0 [] (Rest m ρ c (x16V m ρ c) [5] (done c 0)) ⊢ Q v) :
    ∀ v v1 v2 : BitVec 32, St m ρ K c 33 28 0 [] (Rest m ρ c (x16V m ρ c) [2, 5] (done c 0)) ⊢
      Wp c (ap (k0_part31 (F := F)) c v v1 (sc m ρ c) v2) Q := by
  intro v v1 v2
  rw [k0_part31_eq_skeleton]; unfold ap k0_part31_skel
  simp only [Prog.lift, Prog.bind_op, Prog.bind_ret, Prog.pure_eq_ret]
  refine ring_load 0 2 0 (by decide +kernel) (by decide +kernel) rfl ?_
  refine ring_load 1 0 0 (by decide +kernel) (by decide +kernel) rfl ?_
  refine xl_load ?_
  refine xr_load ?_
  refine slot_load 2 (by decide) rfl fun _ => ?_
  refine slot_store 2 (by decide) rfl (block13 (same c 1)) ?_
  refine send_step k0_dev41 k0_dev41_lt (.res 2) (by decide +kernel) rfl rfl (by decide) ?_
  exact ret_step (hk _)

theorem part32 {Q} (hk : ∀ v v', St m ρ K c 35 28 0 [] (Rest m ρ c (x16V m ρ c) [] (done c 0)) ⊢ Q ⟨v, v'⟩) :
    ∀ v v1 : BitVec 32, St m ρ K c 34 28 0 [] (Rest m ρ c (x16V m ρ c) [5] (done c 0)) ⊢
      Wp c (ap (k0_part32 (F := F)) c v (sc m ρ c) v1) Q := by
  intro v v1
  rw [k0_part32_eq_skeleton]; unfold ap k0_part32_skel
  simp only [Prog.lift, Prog.bind_op, Prog.bind_ret, Prog.pure_eq_ret]
  refine ring_load 0 2 1 (by decide +kernel) (by decide +kernel) rfl ?_
  refine ring_load 1 0 1 (by decide +kernel) (by decide +kernel) rfl ?_
  refine xl_load ?_
  refine xr_load ?_
  refine slot_load 5 (by decide) rfl fun _ => ?_
  refine slot_store 5 (by decide) rfl (block14 (cross c 1)) ?_
  refine send_step k0_dev42 k0_dev42_lt (.res 5) (by decide +kernel) rfl rfl (by decide) ?_
  exact ret_step (hk _ _)

end Cert.MM
-- ==== Proof.Body5.lean ====
/-
# The body: the blocks that came

Each theorem is one stretch of the program, as the generated parts cut it: its effects in order.
-/
module

public import proofs.«01_k».proof.Proof.Blocks

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

variable {R : sProp (MT nD τ sig Unit (Elt F) ℕ UU ℕ)}

theorem part33 {Q} (hk : ∀ v, St m ρ K c 35 29 0 [] (Rest m ρ c (x16V m ρ c) [] (done c 1)) ⊢ Q v) :
    ∀ v v1 v2 v3 : BitVec 32, St m ρ K c 35 28 0 [] (Rest m ρ c (x16V m ρ c) [] (done c 0)) ⊢
      Wp c (ap (k0_part33 (F := F)) c v v1 v2 v3) Q := by
  intro v v1 v2 v3
  rw [k0_part33_eq_skeleton]; unfold ap k0_part33_skel
  simp only [Prog.lift, Prog.bind_op, Prog.bind_ret, Prog.pure_eq_ret]
  refine recv_step (.res 0) rfl rfl (by decide +kernel) rfl ?_
  refine rcv_load 0 (by decide +kernel) rfl ?_
  refine out_load fun _ => ?_
  refine out_store (snd (.res 0) c) (off2_0 c) (came_block 0) ?_
  exact ret_step (hk _)

theorem part34 {Q} (hk : ∀ v v', St m ρ K c 35 31 0 [] (Rest m ρ c (x16V m ρ c) [] (done c 3)) ⊢ Q ⟨v, v'⟩) :
    ∀ v v1 v2 : BitVec 32, St m ρ K c 35 29 0 [] (Rest m ρ c (x16V m ρ c) [] (done c 1)) ⊢
      Wp c (ap (k0_part34 (F := F)) c v v1 v2) Q := by
  intro v v1 v2
  rw [k0_part34_eq_skeleton]; unfold ap k0_part34_skel
  simp only [Prog.lift, Prog.bind_op, Prog.bind_ret, Prog.pure_eq_ret]
  refine recv_step (.res 1) rfl rfl (by decide +kernel) rfl ?_
  refine rcv_load 1 (by decide +kernel) rfl ?_
  refine out_load fun _ => ?_
  refine out_store (snd (.res 1) c) (off2_1 c) (came_block 1) ?_
  refine recv_step (.res 2) rfl rfl (by decide +kernel) rfl ?_
  refine rcv_load 2 (by decide +kernel) rfl ?_
  refine out_load fun _ => ?_
  refine out_store (snd (.res 2) c) (off2_2 c) (came_block 2) ?_
  exact ret_step (hk _ _)

theorem part35 {Q} (hk : ∀ v, St m ρ K c 35 32 0 [] (Rest m ρ c (x16V m ρ c) [] (done c 4)) ⊢ Q v) :
    ∀ v v1 v2 v3 : BitVec 32, St m ρ K c 35 31 0 [] (Rest m ρ c (x16V m ρ c) [] (done c 3)) ⊢
      Wp c (ap (k0_part35 (F := F)) c v v1 v2 v3) Q := by
  intro v v1 v2 v3
  rw [k0_part35_eq_skeleton]; unfold ap k0_part35_skel
  simp only [Prog.lift, Prog.bind_op, Prog.bind_ret, Prog.pure_eq_ret]
  refine recv_step (.res 3) rfl rfl (by decide +kernel) rfl ?_
  refine rcv_load 3 (by decide +kernel) rfl ?_
  refine out_load fun _ => ?_
  refine out_store (snd (.res 3) c) (off3_3 c) (came_block 3) ?_
  exact ret_step (hk _)

theorem part36 {Q} (hk : ∀ v, St m ρ K c 35 34 0 [] (Rest m ρ c (x16V m ρ c) [] (done c 6)) ⊢ Q v) :
    ∀ v v1 v2 : BitVec 32, St m ρ K c 35 32 0 [] (Rest m ρ c (x16V m ρ c) [] (done c 4)) ⊢
      Wp c (ap (k0_part36 (F := F)) c v v1 v2) Q := by
  intro v v1 v2
  rw [k0_part36_eq_skeleton]; unfold ap k0_part36_skel
  simp only [Prog.lift, Prog.bind_op, Prog.bind_ret, Prog.pure_eq_ret]
  refine recv_step (.res 4) rfl rfl (by decide +kernel) rfl ?_
  refine rcv_load 4 (by decide +kernel) rfl ?_
  refine out_load fun _ => ?_
  refine out_store (snd (.res 4) c) (off3_4 c) (came_block 4) ?_
  refine recv_step (.res 5) rfl rfl (by decide +kernel) rfl ?_
  refine rcv_load 5 (by decide +kernel) rfl ?_
  refine out_load fun _ => ?_
  refine out_store (snd (.res 5) c) (off3_5 c) (came_block 5) ?_
  exact ret_step (hk _)

theorem part37 {Q} (hk : Wt m ρ K c 2 [.z 1, .z 0] (Landed m ρ c (Rest m ρ c (x16V m ρ c) [] (done c 7))) ⊢ Q ⟨⟩) :
    ∀ v v1 : BitVec 32, St m ρ K c 35 34 0 [] (Rest m ρ c (x16V m ρ c) [] (done c 6)) ⊢
      Wp c (ap (k0_part37 (F := F)) c v v1) Q := by
  intro v v1
  rw [k0_part37_eq_skeleton]; unfold ap k0_part37_skel
  simp only [Prog.lift, Prog.bind_op, Prog.bind_ret, Prog.pure_eq_ret]
  refine recv_step (.res 6) rfl rfl (by decide +kernel) rfl ?_
  refine rcv_load 6 (by decide +kernel) rfl ?_
  refine out_load fun _ => ?_
  refine out_store (snd (.res 6) c) (off4_6 c) (came_block 6) ?_
  refine turn ?_
  refine back_step (.z 0) rfl rfl ?_ ?_
  · rfl
  refine back_step (.z 1) rfl rfl ?_ ?_
  · rfl
  exact ret_step hk

end Cert.MM
-- ==== Proof.Body6.lean ====
/-
# The body: the waits for what was sent

Each theorem is one stretch of the program, as the generated parts cut it: its effects in order.
-/
module

public import proofs.«01_k».proof.Proof.Blocks

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

variable {R : sProp (MT nD τ sig Unit (Elt F) ℕ UU ℕ)}

theorem part38 {Q} (hk : Wt m ρ K c 6 ((backOrder.take 6).reverse) R ⊢ Q ⟨⟩) :
    Wt m ρ K c 2 ((backOrder.take 2).reverse) R ⊢
      Wp c (ap (k0_part38 (F := F))) Q := by
  rw [k0_part38_eq_skeleton]; unfold ap k0_part38_skel
  simp only [Prog.lift, Prog.bind_op, Prog.bind_ret, Prog.pure_eq_ret]
  refine back_step (.z 2) rfl rfl ?_ ?_
  · rfl
  refine back_step (.z 3) rfl rfl ?_ ?_
  · rfl
  refine back_step (.ring 0 0 0 0) rfl rfl ?_ ?_
  · rfl
  refine back_step (.ring 0 0 0 1) rfl rfl ?_ ?_
  · rfl
  exact ret_step hk

theorem part39 {Q} (hk : Wt m ρ K c 9 ((backOrder.take 9).reverse) R ⊢ Q ⟨⟩) :
    Wt m ρ K c 6 ((backOrder.take 6).reverse) R ⊢
      Wp c (ap (k0_part39 (F := F))) Q := by
  rw [k0_part39_eq_skeleton]; unfold ap k0_part39_skel
  simp only [Prog.lift, Prog.bind_op, Prog.bind_ret, Prog.pure_eq_ret]
  refine back_step (.ring 1 0 0 0) rfl rfl ?_ ?_
  · rfl
  refine back_step (.ring 1 0 0 1) rfl rfl ?_ ?_
  · rfl
  refine back_step (.ring 0 0 1 0) rfl rfl ?_ ?_
  · rfl
  exact ret_step hk

theorem part40 {Q} (hk : Wt m ρ K c 12 ((backOrder.take 12).reverse) R ⊢ Q ⟨⟩) :
    Wt m ρ K c 9 ((backOrder.take 9).reverse) R ⊢
      Wp c (ap (k0_part40 (F := F))) Q := by
  rw [k0_part40_eq_skeleton]; unfold ap k0_part40_skel
  simp only [Prog.lift, Prog.bind_op, Prog.bind_ret, Prog.pure_eq_ret]
  refine back_step (.ring 1 0 1 0) rfl rfl ?_ ?_
  · rfl
  refine back_step (.ring 0 1 0 0) rfl rfl ?_ ?_
  · rfl
  refine back_step (.ring 1 1 0 0) rfl rfl ?_ ?_
  · rfl
  exact ret_step hk

theorem part41 {Q} (hk : Wt m ρ K c 15 ((backOrder.take 15).reverse) R ⊢ Q ⟨⟩) :
    Wt m ρ K c 12 ((backOrder.take 12).reverse) R ⊢
      Wp c (ap (k0_part41 (F := F))) Q := by
  rw [k0_part41_eq_skeleton]; unfold ap k0_part41_skel
  simp only [Prog.lift, Prog.bind_op, Prog.bind_ret, Prog.pure_eq_ret]
  refine back_step (.ring 0 0 1 1) rfl rfl ?_ ?_
  · rfl
  refine back_step (.ring 1 0 1 1) rfl rfl ?_ ?_
  · rfl
  refine back_step (.ring 0 1 0 1) rfl rfl ?_ ?_
  · rfl
  exact ret_step hk

theorem part42 {Q} (hk : Wt m ρ K c 18 ((backOrder.take 18).reverse) R ⊢ Q ⟨⟩) :
    Wt m ρ K c 15 ((backOrder.take 15).reverse) R ⊢
      Wp c (ap (k0_part42 (F := F))) Q := by
  rw [k0_part42_eq_skeleton]; unfold ap k0_part42_skel
  simp only [Prog.lift, Prog.bind_op, Prog.bind_ret, Prog.pure_eq_ret]
  refine back_step (.ring 1 1 0 1) rfl rfl ?_ ?_
  · rfl
  refine back_step (.ring 0 1 1 0) rfl rfl ?_ ?_
  · rfl
  refine back_step (.ring 1 1 1 0) rfl rfl ?_ ?_
  · rfl
  exact ret_step hk

theorem part43 {Q} (hk : Wt m ρ K c 20 ((backOrder.take 20).reverse) R ⊢ Q ⟨⟩) :
    Wt m ρ K c 18 ((backOrder.take 18).reverse) R ⊢
      Wp c (ap (k0_part43 (F := F))) Q := by
  rw [k0_part43_eq_skeleton]; unfold ap k0_part43_skel
  simp only [Prog.lift, Prog.bind_op, Prog.bind_ret, Prog.pure_eq_ret]
  refine back_step (.ring 0 1 1 1) rfl rfl ?_ ?_
  · rfl
  refine back_step (.ring 1 1 1 1) rfl rfl ?_ ?_
  · rfl
  exact ret_step hk

theorem part44 {Q} (hk : Wt m ρ K c 23 ((backOrder.take 23).reverse) R ⊢ Q ⟨⟩) :
    Wt m ρ K c 20 ((backOrder.take 20).reverse) R ⊢
      Wp c (ap (k0_part44 (F := F))) Q := by
  rw [k0_part44_eq_skeleton]; unfold ap k0_part44_skel
  simp only [Prog.lift, Prog.bind_op, Prog.bind_ret, Prog.pure_eq_ret]
  refine back_step (.ring 0 2 0 0) rfl rfl ?_ ?_
  · rfl
  refine back_step (.ring 1 2 0 0) rfl rfl ?_ ?_
  · rfl
  refine back_step (.ring 0 2 0 1) rfl rfl ?_ ?_
  · rfl
  exact ret_step hk

theorem part45 {Q} (hk : Wt m ρ K c 26 ((backOrder.take 26).reverse) R ⊢ Q ⟨⟩) :
    Wt m ρ K c 23 ((backOrder.take 23).reverse) R ⊢
      Wp c (ap (k0_part45 (F := F))) Q := by
  rw [k0_part45_eq_skeleton]; unfold ap k0_part45_skel
  simp only [Prog.lift, Prog.bind_op, Prog.bind_ret, Prog.pure_eq_ret]
  refine back_step (.ring 1 2 0 1) rfl rfl ?_ ?_
  · rfl
  refine back_step (.ring 0 2 1 0) rfl rfl ?_ ?_
  · rfl
  refine back_step (.ring 1 2 1 0) rfl rfl ?_ ?_
  · rfl
  exact ret_step hk

theorem part46 {Q} (hk : Wt m ρ K c 29 ((backOrder.take 29).reverse) R ⊢ Q ⟨⟩) :
    Wt m ρ K c 26 ((backOrder.take 26).reverse) R ⊢
      Wp c (ap (k0_part46 (F := F))) Q := by
  rw [k0_part46_eq_skeleton]; unfold ap k0_part46_skel
  simp only [Prog.lift, Prog.bind_op, Prog.bind_ret, Prog.pure_eq_ret]
  refine back_step (.ring 0 2 1 1) rfl rfl ?_ ?_
  · rfl
  refine back_step (.ring 1 2 1 1) rfl rfl ?_ ?_
  · rfl
  refine back_step (.res 6) rfl rfl ?_ ?_
  · rfl
  exact ret_step hk

theorem part47 {Q} (hk : Wt m ρ K c 33 ((backOrder.take 33).reverse) R ⊢ Q ⟨⟩) :
    Wt m ρ K c 29 ((backOrder.take 29).reverse) R ⊢
      Wp c (ap (k0_part47 (F := F))) Q := by
  rw [k0_part47_eq_skeleton]; unfold ap k0_part47_skel
  simp only [Prog.lift, Prog.bind_op, Prog.bind_ret, Prog.pure_eq_ret]
  refine back_step (.res 1) rfl rfl ?_ ?_
  · rfl
  refine back_step (.res 4) rfl rfl ?_ ?_
  · rfl
  refine back_step (.res 0) rfl rfl ?_ ?_
  · rfl
  refine back_step (.res 3) rfl rfl ?_ ?_
  · rfl
  exact ret_step hk

end Cert.MM
-- ==== Proof.Body.lean ====
/-
# The body

The program of one device, from the entry handshake to the last wait.
-/
module

public import proofs.«01_k».proof.Proof.Body1
public import proofs.«01_k».proof.Proof.Body2
public import proofs.«01_k».proof.Proof.Body3
public import proofs.«01_k».proof.Proof.Body4
public import proofs.«01_k».proof.Proof.Body5
public import proofs.«01_k».proof.Proof.Body6

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

/-- The transfers whose source is at hand at the start. -/
abbrev first : List T := [.z 0, .z 1, .z 2, .z 3, .ring 0 0 0 0, .ring 0 0 0 1, .ring 1 0 0 0, .ring 1 0 0 1]

set_option maxRecDepth 8000 in
theorem body_parts {Y : S512x4096.Idx → Elt F .bf16} {Q}
    (hk : Wt m ρ K c 33 (backOrder.take 33).reverse (Landed m ρ c (Rest m ρ c (x16V m ρ c) [] (done c 7))) ⊢ Q ⟨⟩) :
    Bar m ρ K c offs iprop(Core m ρ c 0 0 0 first ∗ Rest0 m ρ c Y [0, 1, 2, 3, 4, 5, 6] []) ⊢ Wp c (ap (k0_part48 (F := F))) Q := by
  rw [k0_part48_eq_skeleton]; unfold ap k0_part48_skel
  refine bind_step (part1 fun v2 v20 v21 v22 v26 v30 v31 v35 => ?_)
  refine bind_step (part2 (fun v59 c43 => ?_) _ _ _)
  refine bind_step (part3 (fun v85 => ?_) _ _ _)
  refine bind_step (part4 ?_ _ _)
  refine bind_step (part5 ?_ _)
  refine bind_step (part6 ?_ _ _ _)
  refine bind_step (part7 ?_ _ _ _)
  refine bind_step (part8 ?_ _ _)
  refine bind_step (part9 ?_ _ _ _)
  refine bind_step (part10 ?_ _ _ _)
  refine bind_step (part11 (fun _ => ?_) _ _)
  refine bind_step (part12 ?_ _ _)
  refine bind_step (part13 ?_ _)
  refine bind_step (part14 ?_ _ _)
  refine bind_step (part15 ?_ _ _)
  refine bind_step (part16 ?_ _ _)
  refine bind_step (part17 ?_ _)
  refine bind_step (part18 ?_ _)
  refine bind_step (part19 (fun _ => ?_) _)
  refine bind_step (part20 ?_ _ _ _)
  refine bind_step (part21 ?_ _ _)
  refine bind_step (part22 ?_ _ _)
  refine bind_step (part23 (fun _ => ?_) _ _ _)
  refine bind_step (part24 (fun _ => ?_) _ _ _)
  refine bind_step (part25 (fun _ => ?_) _ _ _)
  refine bind_step (part26 ?_ _ _ _)
  refine bind_step (part27 ?_ _ _)
  refine bind_step (part28 (fun _ => ?_) _ _ _ _)
  refine bind_step (part29 (fun _ => ?_) _ _ _)
  refine bind_step (part30 (fun _ => ?_) _ _ _)
  refine bind_step (part31 (fun _ => ?_) _ _ _)
  refine bind_step (part32 (fun _ _ => ?_) _ _)
  refine bind_step (part33 (fun _ => ?_) _ _ _ _)
  refine bind_step (part34 (fun _ _ => ?_) _ _ _)
  refine bind_step (part35 (fun _ => ?_) _ _ _ _)
  refine bind_step (part36 (fun _ => ?_) _ _ _)
  refine bind_step (part37 ?_ _ _)
  refine bind_step (part38 ?_)
  refine bind_step (part39 ?_)
  refine bind_step (part40 ?_)
  refine bind_step (part41 ?_)
  refine bind_step (part42 ?_)
  refine bind_step (part43 ?_)
  refine bind_step (part44 ?_)
  refine bind_step (part45 ?_)
  refine bind_step (part46 ?_)
  refine bind_step (part47 ?_)
  exact ret_step hk

theorem body_wp {Y : S512x4096.Idx → Elt F .bf16} {Q}
    (hk : Wt m ρ K c 35 (backOrder.take 35).reverse (Landed m ρ c (Rest m ρ c (x16V m ρ c) [] (done c 7))) ⊢ Q ⟨⟩) :
    Bar m ρ K c offs iprop(Core m ρ c 0 0 0 first ∗ Rest0 m ρ c Y [0, 1, 2, 3, 4, 5, 6] []) ⊢ Wp c (ap (cc0_body (F := F))) Q := by
  rw [cc0_body_eq_skeleton]; unfold ap cc0_body_skel
  refine bind_step ?_
  simp only [Prog.lift, Prog.bind_op, Prog.bind_ret, Prog.pure_eq_ret]
  generalize hQ : (fun a : PUnit => Wp c _ Q) = Q'
  have hw : Wt m ρ K c 33 (backOrder.take 33).reverse (Landed m ρ c (Rest m ρ c (x16V m ρ c) [] (done c 7))) ⊢ Q' ⟨⟩ := by
    rw [← hQ]
    refine back_step (.res 2) rfl rfl ?_ ?_
    · rfl
    refine back_step (.res 5) rfl rfl ?_ ?_
    · rfl
    exact ret_step hk
  have h := @body_parts F _ m ρ K c Y Q' hw
  unfold ap at h
  with_reducible exact h

end Cert.MM
-- ==== Proof.Pieces.lean ====
/-
# The pieces put together

The buffers of a device as a whole against the pieces that the transfers use.
-/
module

public import proofs.«01_k».proof.Proof.Body

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

/-! ## More on assertions over a list -/

section Lists
variable {ι ι' : Type}

theorem stars_map (f : ι → ι') (Φ : ι' → PP F) (l : List ι) : stars Φ (l.map f) = stars (fun i => Φ (f i)) l := by
  induction l with
  | nil => rfl
  | cons i l ih => rw [List.map_cons, stars_cons, stars_cons, ih]

theorem stars_sep (Φ Ψ : ι → PP F) (l : List ι) : stars (fun i => iprop(Φ i ∗ Ψ i)) l = iprop(stars Φ l ∗ stars Ψ l) := by
  induction l with
  | nil => exact (BI.equiv_iff.mp emp_sep).symm
  | cons i l ih =>
    rw [stars_cons, stars_cons, stars_cons, ih]
    refine eq_of_entails ?_ ?_
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

theorem stars_mono {Φ Ψ : ι → PP F} (l : List ι) (h : ∀ i ∈ l, Φ i ⊢ Ψ i) : stars Φ l ⊢ stars Ψ l := by
  induction l with
  | nil => exact BIBase.Entails.refl
  | cons i l ih =>
    rw [stars_cons, stars_cons]
    iintro ⟨H1, H2⟩
    isplitl [H1]
    · iapply (h i List.mem_cons_self); iexact H1
    · iapply (ih fun j hj => h j (List.mem_cons_of_mem _ hj)); iexact H2

theorem stars_congr {Φ Ψ : ι → PP F} (l : List ι) (h : ∀ i ∈ l, Φ i = Ψ i) : stars Φ l = stars Ψ l := by
  induction l with
  | nil => rfl
  | cons i l ih => rw [stars_cons, stars_cons, h i List.mem_cons_self, ih fun j hj => h j (List.mem_cons_of_mem _ hj)]

theorem stars_flatMap (f : ι → List ι') (Φ : ι' → PP F) (l : List ι) : stars Φ (l.flatMap f) = stars (fun i => stars Φ (f i)) l := by
  induction l with
  | nil => rfl
  | cons i l ih => rw [List.flatMap_cons, stars_append, stars_cons, ih]

end Lists

/-! ## Elements at whatever contents -/

section Rooms
variable {sp : Space} {sh : Shape} {e : EltTy} {M : Memref sig .tc sp sh e}

/-- The elements of `M` at the indices in `S`, holding anything. -/
def room (c : Dev nD) (M : Memref sig .tc sp sh e) (S : Finset sh.Idx) : PP F :=
  iprop(∃ f, (M.view.loc (c : Thread nD τ) ↦[M.view.setOn S]{fullShare} f))

theorem room_of_own (S : Finset sh.Idx) (X : sh.Idx → Elt F e) : own c M fullShare S X ⊢ room c M S := by
  unfold own room
  iintro ⟨%f, -, H⟩
  iexists f; iexact H

theorem own_of_room (S : Finset sh.Idx) : room c M S ⊢ (iprop(∃ X, own c M fullShare S X) : PP F) := by
  unfold own room
  iintro ⟨%f, H⟩
  iexists (M.view.read (Elt F) f)
  iexists f
  isplitr
  · ipureintro; exact fun _ _ => rfl
  · iexact H

theorem room_eq (S : Finset sh.Idx) : (iprop(∃ X, own c M fullShare S X) : PP F) = room c M S := by
  refine eq_of_entails ?_ (own_of_room S)
  iintro ⟨%X, H⟩
  iapply (room_of_own S X); iexact H

/-- What is held of a memref, at whatever contents. -/
theorem free_eq : (iprop(∃ X, owns (c : Thread nD τ) M fullShare X) : PP F) = iprop(∃ f, (M.view.loc (c : Thread nD τ) ↦[M.view.set]{fullShare} f)) := by
  unfold owns
  refine eq_of_entails ?_ ?_
  · iintro ⟨%X, %f, -, H⟩
    iexists f; iexact H
  · iintro ⟨%f, H⟩
    iexists (M.view.read (Elt F) f)
    iexists f
    isplitr
    · ipureintro; rfl
    · iexact H

theorem free_slice (r : Rect sh) (h1 : ∀ a, r.stride a = 1) : (iprop(∃ X, owns (c : Thread nD τ) (M.slice r h1) fullShare X) : PP F) = room c M r.set := by
  have hs : (M.slice r h1).view.set = M.view.setOn r.set := View.set_slice M.view r
  rw [free_eq, hs]; rfl

theorem free_squeeze (r : Rect sh) (h1 : ∀ a, r.stride a = 1) (s' : Shape) (hq : r.shape.Squeezes s') :
    (iprop(∃ X, owns (c : Thread nD τ) ((M.slice r h1).squeeze s' hq) fullShare X) : PP F) = room c M r.set := by
  have hs : ((M.slice r h1).squeeze s' hq).view.set = M.view.setOn r.set := (View.set_reshape _ _).trans (View.set_slice M.view r)
  rw [free_eq, hs]; rfl

theorem room_union {S T : Finset sh.Idx} (hd : Disjoint S T) : (room c M (S ∪ T) : PP F) = iprop(room c M S ∗ room c M T) := by
  have hu : M.view.setOn (S ∪ T) = M.view.setOn S ∪ M.view.setOn T := Finset.map_union _ _
  have hd' : Disjoint (M.view.setOn S) (M.view.setOn T) := (Finset.disjoint_map _).mpr hd
  unfold room
  rw [hu]
  refine eq_of_entails ?_ ?_
  · iintro ⟨%f, H⟩
    ihave H := (pointsTo_union (f := f) hd').1 $$ H
    icases H with ⟨H1, H2⟩
    isplitl [H1]
    · iexists f; iexact H1
    · iexists f; iexact H2
  · iintro ⟨⟨%f, H1⟩, ⟨%g, H2⟩⟩
    iexists (M.view.setOn T).piecewise g f
    iapply (pointsTo_join hd') $$ [H1 H2]
    isplitl [H1] <;> iassumption

/-- Along disjoint parts that cover. -/
theorem room_cover {I : Type} [DecidableEq I] (l : List I) (S : I → Finset sh.Idx) (hd : l.Pairwise fun i j => Disjoint (S i) (S j))
    (hc : ∀ x, ∃ i ∈ l, x ∈ S i) : (room c M Finset.univ : PP F) = stars (fun i => room c M (S i)) l := by
  have key : ∀ l : List I, (l.Pairwise fun i j => Disjoint (S i) (S j)) → (room c M (l.toFinset.biUnion S) : PP F) = stars (fun i => room c M (S i)) l := by
    intro l hd
    induction l with
    | nil =>
      show (room c M ∅ : PP F) = iprop(emp)
      unfold room
      rw [show M.view.setOn ∅ = ∅ from Finset.map_empty _]
      refine eq_of_entails ?_ ?_
      · iintro ⟨%f, H⟩
        rw [pointsTo_empty]; iempintro
      · iintro -
        iexists (M.view.junk)
        rw [pointsTo_empty]; iempintro
    | cons i l ih =>
      rw [stars_cons, ← ih (List.pairwise_cons.mp hd).2, List.toFinset_cons, Finset.biUnion_insert, room_union]
      rw [Finset.disjoint_biUnion_right]
      exact fun j hj => (List.pairwise_cons.mp hd).1 j (List.mem_toFinset.mp hj)
  rw [← key l hd]
  congr 1
  refine (Finset.eq_univ_iff_forall.mpr fun x => ?_).symm
  obtain ⟨i, hi, hx⟩ := hc x
  exact Finset.mem_biUnion.mpr ⟨i, List.mem_toFinset.mpr hi, hx⟩

/-- The same for known contents. -/
theorem own_cover {q : PosShare TreeShare} {I : Type} [DecidableEq I] (l : List I) (S : I → Finset sh.Idx) (hd : l.Pairwise fun i j => Disjoint (S i) (S j))
    (hc : ∀ x, ∃ i ∈ l, x ∈ S i) (X : sh.Idx → Elt F e) : (own c M q Finset.univ X : PP F) = stars (fun i => own c M q (S i) X) l := by
  rw [← own_biUnion l S hd]
  congr 1
  refine (Finset.eq_univ_iff_forall.mpr fun x => ?_).symm
  obtain ⟨i, hi, hx⟩ := hc x
  exact Finset.mem_biUnion.mpr ⟨i, List.mem_toFinset.mpr hi, hx⟩

/-- A whole buffer. -/
theorem room_whole (b : Ref sig .tc) : (iprop(∃ f : Buf (Elt F) ((c : Thread nD τ).loc b), ((c : Thread nD τ).loc b) ↦{fullShare} f) : PP F)
    = room c (Memref.whole b) Finset.univ := by
  unfold room
  rw [show (Memref.whole b).view.setOn Finset.univ = Finset.univ from View.set_whole b]

end Rooms

/-! ## The places the transfers land in -/

theorem free_z (i : Fin 4) : (freeP (.z i) c : PP F) = room c mateM (rowR (.z i)).set := free_slice (M := mateM) (rowR (.z i)) (fun _ => rfl)
theorem free_ring (d : Fin 2) (h : Fin 3) (j s : Fin 2) : (freeP (.ring d h j s) c : PP F) = room c (ringM d) (ringR h j s).set :=
  free_squeeze (M := ringM d) (ringR h j s) (fun _ => rfl) S1024x256 squeezes_S1x1x1024x256_S1024x256
theorem free_res (k : Fin 7) : (freeP (.res k) c : PP F) = room c rcvM (slotR k).set :=
  free_squeeze (M := rcvM) (slotR k) (fun _ => rfl) S512x256 squeezes_S1x512x256_S512x256

abbrev zs : List (Fin 4) := [0, 1, 2, 3]
abbrev hops : List (Fin 3 × Fin 2 × Fin 2) :=
  [(0, 0, 0), (0, 0, 1), (0, 1, 0), (0, 1, 1), (1, 0, 0), (1, 0, 1), (1, 1, 0), (1, 1, 1), (2, 0, 0), (2, 0, 1), (2, 1, 0), (2, 1, 1)]
abbrev slots : List (Fin 7) := [0, 1, 2, 3, 4, 5, 6]

theorem rows_disj {t u : T} (h : base t + 1024 ≤ base u ∨ base u + 1024 ≤ base t) : Disjoint (rowR t).set (rowR u).set := by
  rw [Finset.disjoint_left]
  intro i hi hj
  rw [mem_rowR] at hi hj
  omega

theorem rows_cover (l : List T) (h0 : ∀ b : Fin 4, ∃ t ∈ l, base t = 1024 * b.val) (x : S4096x256.Idx) : ∃ t ∈ l, x ∈ (rowR t).set := by
  have hx : (x 0).val < 4096 := (x 0).isLt
  obtain ⟨t, ht, hb⟩ := h0 ⟨(x 0).val / 1024, by omega⟩
  refine ⟨t, ht, (mem_rowR t x).mpr ?_⟩
  rw [hb]
  show 1024 * ((x 0).val / 1024) ≤ _ ∧ _ < 1024 * ((x 0).val / 1024) + 1024
  omega

theorem ring_disj {a b : Fin 3 × Fin 2 × Fin 2} (h : a ≠ b) : Disjoint (ringR a.1 a.2.1 a.2.2).set (ringR b.1 b.2.1 b.2.2).set := by
  rw [Finset.disjoint_left]
  intro i hi hj
  rw [mem_ringR] at hi hj
  refine h (Prod.ext (hi.1.symm.trans hj.1) (Prod.ext (hi.2.1.symm.trans hj.2.1) (Fin.ext ?_)))
  omega

theorem ring_cover (x : S3x2x2048x256.Idx) : ∃ a ∈ hops, x ∈ (ringR a.1 a.2.1 a.2.2).set := by
  have h2 : (x 2).val < 2048 := (x 2).isLt
  have hm : ∀ a : Fin 3 × Fin 2 × Fin 2, a ∈ hops := by decide +kernel
  refine ⟨(x 0, x 1, ⟨(x 2).val / 1024, by omega⟩), hm _, (mem_ringR _ _ _ x).mpr ⟨rfl, rfl, ?_⟩⟩
  show (x 2).val / 1024 * 1024 ≤ _ ∧ _ < (x 2).val / 1024 * 1024 + 1024
  omega

theorem slot_disj {a b : Fin 7} (h : a ≠ b) : Disjoint (slotR a).set (slotR b).set := by
  rw [Finset.disjoint_left]
  intro i hi hj
  rw [mem_slotR] at hi hj
  exact h (hi.symm.trans hj)

theorem slot_cover (x : S7x512x256.Idx) : ∃ k ∈ slots, x ∈ (slotR k).set := by
  have hm : ∀ a : Fin 7, a ∈ slots := by decide +kernel
  exact ⟨x 0, hm _, (mem_slotR _ x).mpr rfl⟩

theorem mate_places : (room c mateM Finset.univ : PP F) = stars (fun t => freeP t c) (zs.map .z) := by
  rw [stars_map, room_cover zs (fun i => (rowR (.z i)).set)]
  · exact stars_congr _ fun i _ => (free_z i).symm
  · have h : zs.Pairwise fun i j => base (.z i) + 1024 ≤ base (.z j) ∨ base (.z j) + 1024 ≤ base (.z i) := by decide +kernel
    exact h.imp rows_disj
  · intro x
    obtain ⟨t, ht, hx⟩ := rows_cover (zs.map .z) (by decide +kernel) x
    obtain ⟨i, hi, rfl⟩ := List.mem_map.mp ht
    exact ⟨i, hi, hx⟩

theorem ring_places (d : Fin 2) : (room c (ringM d) Finset.univ : PP F) = stars (fun t => freeP t c) (hops.map fun a => .ring d a.1 a.2.1 a.2.2) := by
  rw [stars_map, room_cover hops (fun a => (ringR a.1 a.2.1 a.2.2).set)]
  · exact stars_congr _ fun a _ => (free_ring d a.1 a.2.1 a.2.2).symm
  · have h : hops.Pairwise fun a b => a ≠ b := by decide +kernel
    exact h.imp ring_disj
  · exact ring_cover

theorem rcv_places : (room c rcvM Finset.univ : PP F) = stars (fun t => freeP t c) (slots.map .res) := by
  rw [stars_map, room_cover slots (fun k => (slotR k).set)]
  · exact stars_congr _ fun k _ => (free_res k).symm
  · have h : slots.Pairwise fun a b => a ≠ b := by decide +kernel
    exact h.imp slot_disj
  · exact slot_cover

theorem res_places : (room c resM Finset.univ : PP F) = stars (slotFree c) slots := by
  rw [room_cover slots (fun k => (slotR k).set)]
  · exact stars_congr _ fun k _ => (room_eq _).symm
  · have h : slots.Pairwise fun a b => a ≠ b := by decide +kernel
    exact h.imp slot_disj
  · exact slot_cover

/-- The four landing buffers are the places the transfers to `c` land in. -/
theorem places : (iprop(room c mateM Finset.univ ∗ room c cwM Finset.univ ∗ room c ccwM Finset.univ ∗ room c rcvM Finset.univ) : PP F)
    = stars (fun t => freeP t c) recvOrder := by
  rw [mate_places, show (room c cwM Finset.univ : PP F) = _ from ring_places 0, show (room c ccwM Finset.univ : PP F) = _ from ring_places 1, rcv_places,
    ← stars_append, ← stars_append, ← stars_append]
  exact stars_perm _ (by decide +kernel)

/-- The same dealt by the device that writes to them. -/
theorem places_off : (stars (fun t => freeP t c) recvOrder : PP F) = stars (fun o => barPay (off c o) o) offs := by
  have h8 : ([0, 1, 2, 3, 4, 5, 6, 7] : List (Fin 8)).Nodup := by decide +kernel
  have m8 : ∀ o : Fin 8, o ∈ ([0, 1, 2, 3, 4, 5, 6, 7] : List (Fin 8)) := by decide +kernel
  rw [← stars_univ _ recvOrder recvOrder_nodup mem_recvOrder, group_by Finset.univ (fun t => ofs c (snd t c)), stars_univ _ _ h8 m8, stars_cons,
    show (bigSep Finset.univ fun t => if ofs c (snd t c) = 0 then freeP (F := F) t c else iprop(emp)) = iprop(emp) from
      (bigSep_congr fun t _ => if_neg fun h => snd_ne t c ((ofs_zero _ _).mp h).symm).trans (bigSep_emp_const _)]
  refine (BI.equiv_iff.mp emp_sep).trans ?_
  exact stars_congr _ fun o _ => (barPay_off c o).symm

end Cert.MM
-- ==== Proof.Ends.lean ====
/-
# Entry and exit

What a device starts its body from, and what it ends it with.
-/
module

public import proofs.«01_k».proof.Proof.Pieces

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {m : (ℓ : Loc nD τ sig) → Buf (Elt F) ℓ} {ρ : Dev nD → PrngReg}
variable {K : Dev nD × Option (T × Bool) → ℕ} {c : Dev nD}

theorem own_halves {sp : Space} {sh : Shape} {e : EltTy} (M : Memref sig .tc sp sh e) (q : PosShare TreeShare) (X : sh.Idx → Elt F e) :
    (own c M q Finset.univ X : PP F) = iprop(own c M q.left Finset.univ X ∗ own c M q.right Finset.univ X) := by
  rw [← own_univ, ← own_univ, ← own_univ]; exact owns_halves c M q X

/-! ## The device's own block of `w` -/

theorem orig_first : ∀ c : Dev nD, ∀ t ∈ first, orig' t c = c := by decide +kernel

theorem w_part (q : PosShare TreeShare) (l : List T) (h0 : ∀ b : Fin 4, ∃ t ∈ l, base t = 1024 * b.val)
    (hd : l.Pairwise fun t u => base t + 1024 ≤ base u ∨ base u + 1024 ≤ base t)
    (hs : ∀ t ∈ l, (srcP m ρ t c : PP F) = owns (c : Thread nD τ) (rowsOf wM t) q (wblk m ρ c (base t))) :
    (own c wM q Finset.univ (W m ρ c) : PP F) = stars (fun t => srcP m ρ t c) l := by
  rw [own_cover l (fun t => (rowR t).set) (hd.imp rows_disj) (rows_cover l h0)]
  exact stars_congr _ fun t ht => ((hs t ht).trans (owns_rows wM t q c)).symm

theorem src_z (i : Fin 4) : (srcP m ρ (.z i) c : PP F) = owns (c : Thread nD τ) (rowsOf wM (.z i)) fullShare.left (wblk m ρ c (base (.z i))) := rfl
theorem src_ring (d s : Fin 2) (h : orig' (.ring d 0 0 s) c = c) : (srcP m ρ (.ring d 0 0 s) c : PP F)
    = owns (c : Thread nD τ) (rowsOf wM (.ring d 0 0 s)) fullShare.right.left (wblk m ρ c (base (.ring d 0 0 s))) := by
  show owns (c : Thread nD τ) (rowsOf wM (.ring d 0 0 s)) fullShare.right.left (wblk m ρ (orig' (.ring d 0 0 s) c) (base (.ring d 0 0 s))) = _
  rw [h]

/-- It is the sources of the first transfers and a share that stays. -/
theorem w_pieces : (own c wM fullShare Finset.univ (W m ρ c) : PP F)
    = iprop(stars (fun t => srcP m ρ t c) first ∗ own c wM fullShare.right.right Finset.univ (W m ρ c)) := by
  rw [own_halves, own_halves wM fullShare.right,
    w_part fullShare.left [.z 0, .z 1, .z 2, .z 3] (by decide +kernel) (by decide +kernel) ?_,
    w_part fullShare.right.left [.ring 0 0 0 0, .ring 0 0 0 1, .ring 1 0 0 0, .ring 1 0 0 1] (by decide +kernel) (by decide +kernel) ?_,
    show first = [.z 0, .z 1, .z 2, .z 3] ++ [.ring 0 0 0 0, .ring 0 0 0 1, .ring 1 0 0 0, .ring 1 0 0 1] from rfl, stars_append]
  · exact (eq_of_equiv Laws.sep_assoc).symm
  · intro t ht
    rcases t with i | ⟨d, h, j, s⟩ | k
    · exact absurd ht (by revert i; decide +kernel)
    · have e : h = 0 ∧ j = 0 := by revert d h j s; decide +kernel
      obtain ⟨rfl, rfl⟩ := e
      exact src_ring d s (orig_first c _ (by revert d s; decide +kernel))
    · exact absurd ht (by revert k; decide +kernel)
  · intro t ht
    rcases t with i | ⟨d, h, j, s⟩ | k
    · exact src_z i
    · exact absurd ht (by revert d h j s; decide +kernel)
    · exact absurd ht (by revert k; decide +kernel)

/-! ## The start -/

/-- The duty tokens `c` pays with. -/
def payToks (c : Dev nD) : PP F :=
  iprop(stars (fun o => dutyTok ER (barCell (off c o)) 0 o) offs
    ∗ stars (fun t => iprop(dutyTok ER (sendCell t c) 0 (0 : Fin 8) ∗ dutyTok ER (recvCell t (tgt t c)) 0 (0 : Fin 8))) order)

/-- The positions of `c` at its cells. -/
def places0 (c : Dev nD) : PP F :=
  iprop(atPos ER (barCell c) 0 (∅ : Finset (Fin 8)) 0 ∗ stars (fun t => atPos ER (recvCell t c) 0 (∅ : Finset (Fin 8)) 0) recvOrder
    ∗ stars (fun t => atPos ER (sendCell t c) 0 (∅ : Finset (Fin 8)) 0) order)

variable (m ρ) in
/-- The ghost state a device starts with. -/
def ghost (K : Dev nD × Option (T × Bool) → ℕ) (c : Dev nD) : PP F := iprop(recs m ρ K ∗ places0 c ∗ payToks c)

/-- The credit for what the others owe it. -/
def creds (c : Dev nD) : PP F :=
  iprop(cred (tallyAt (barCell c) () 7) ∗ stars (fun t => cred (tallyAt (recvCell t c) () (amt t))) recvOrder)

/-- The buffers that are the kernel's own. -/
def Bufs (c : Dev nD) : PP F :=
  iprop(room c x16M Finset.univ ∗ room c mateM Finset.univ ∗ room c cwM Finset.univ ∗ room c ccwM Finset.univ
    ∗ room c resM Finset.univ ∗ room c rcvM Finset.univ)

variable (m ρ) in
/-- The staged operands. -/
def Ops (c : Dev nD) : PP F :=
  iprop(own c (Memref.whole cc0_stg0_0) fullShare Finset.univ (SX m ρ c) ∗ own c (Memref.whole cc0_stg1_0) fullShare Finset.univ (SW m ρ c)
    ∗ own c xM fullShare Finset.univ (X m ρ c) ∗ own c wM fullShare Finset.univ (W m ρ c))

theorem enter {Q : PP F} (hk : ∀ Y, Bar m ρ K c offs iprop(Core m ρ c 0 0 0 first ∗ Rest0 m ρ c Y [0, 1, 2, 3, 4, 5, 6] []) ⊢ Q) :
    iprop(levAts L lv ∗ ghost m ρ K c ∗ creds c ∗ (∃ V, owes (c : Thread nD τ) (oweB c offs) V) ∗ Bufs c ∗ Ops m ρ c ∗ room c outM Finset.univ) ⊢ Q := by
  unfold Bar Core Rest0 OutP at hk
  rw [stars_sep (fun o => dutyTok ER (barCell (off c o)) 0 o), show order.drop 0 = order from rfl, show (order.take 0).drop 0 = [] from rfl,
    show recvOrder.drop 0 = recvOrder from rfl, show recvOrder.take 0 = [] from rfl, show order.take 0 = [] from rfl,
    stars_sep (fun t => atPos ER (recvCell t c) 0 (∅ : Finset (Fin 8)) 0)] at hk
  unfold ghost places0 payToks creds Bufs Ops
  rw [w_pieces, res_places]
  iintro ⟨Hl, ⟨#Hr, ⟨HaB, HaR, HaS⟩, HtB, HtT⟩, ⟨HcB, HcR⟩, HO, ⟨Hx16, Hm, Hcw, Hccw, Hres, Hrcv⟩, ⟨Hsx, Hsw, Hx, Hsrc, Hw⟩, Hout⟩
  ihave Hx16 := (own_of_room (M := x16M) Finset.univ) $$ Hx16
  icases Hx16 with ⟨%Y, Hx16⟩
  ihave Hout := (own_of_room (M := outM) Finset.univ) $$ Hout
  icases Hout with ⟨%f, Hout⟩
  ihave Hp := (Entails.of_eq (places.trans places_off)) $$ [Hm Hcw Hccw Hrcv]
  · isplitl [Hm]; · iexact Hm
    isplitl [Hcw]; · iexact Hcw
    isplitl [Hccw] <;> iassumption
  iapply (hk Y)
  isplitl [Hl]; · iexact Hl
  isplitr; · iexact Hr
  isplitl [HO]; · iexact HO
  isplitl [HtB Hp]
  · isplitl [HtB] <;> iassumption
  isplitl [HaB]; · iexact HaB
  isplitl [HcB]; · iexact HcB
  isplitl [HtT HaR HcR HaS Hsrc]
  · isplitl [HtT]; · iexact HtT
    isplitr; · unfold stars; iempintro
    isplitl [HaR HcR]
    · isplitl [HaR] <;> iassumption
    isplitr; · unfold stars; iempintro
    isplitl [HaS]; · iexact HaS
    isplitr; · unfold stars; iempintro
    isplitl [Hsrc]; · iexact Hsrc
    unfold stars; iempintro
  isplitl [Hres]; · iexact Hres
  isplitl [Hx16]; · iexact Hx16
  isplitl [Hout]
  · iexists f
    isplitr
    · ipureintro; exact fun i hi => absurd hi List.not_mem_nil
    · iexact Hout
  isplitl [Hw]; · iexact Hw
  isplitl [Hx]; · iexact Hx
  isplitl [Hsx] <;> iassumption

/-! ## The end -/

/-- What a transfer brought and what its next hop took make the place free again. -/
theorem landed_free : (iprop(stars (fun t => srcP m ρ t c) (recvOrder.flatMap nxt) ∗ stars (fun t => keepP m ρ t c) recvOrder) : PP F)
    ⊢ stars (fun t => freeP t c) recvOrder := by
  rw [stars_flatMap, ← stars_sep]
  refine stars_mono _ fun t _ => ?_
  rw [← landP_split t]
  unfold landP freeP
  iintro H
  iexists _; iexact H

theorem slots_free : (stars (fun t => srcP m ρ t c) (slots.map .res) : PP F) ⊢ room c resM Finset.univ := by
  rw [stars_map, res_places]
  refine stars_mono _ fun k _ => ?_
  rw [src_res]; unfold slotFree
  iintro H
  iexists _; iexact H

theorem sources : (stars (fun t => srcP m ρ t c) (backOrder.take 35).reverse : PP F)
    = iprop(stars (fun t => srcP m ρ t c) (recvOrder.flatMap nxt) ∗ stars (fun t => srcP m ρ t c) (slots.map .res) ∗ stars (fun t => srcP m ρ t c) first) := by
  rw [← stars_append, ← stars_append]
  exact stars_perm _ (by decide +kernel)

/-- What a device ends with beside the staged buffers. -/
def Ended (c : Dev nD) : PP F :=
  iprop(Bufs c ∗ stars (fun t => semVal (sendCell t c) 0) backOrder ∗ stars (fun t => semVal (recvCell t c) 0) recvOrder ∗ semVal (barCell c) 0)

theorem leave : Wt m ρ K c 35 (backOrder.take 35).reverse (Landed m ρ c (Rest m ρ c (x16V m ρ c) [] (done c 7)))
    ⊢ iprop(Ended c ∗ (∃ V, owes (c : Thread nD τ) 0 V) ∗ Ops m ρ c ∗ own c outM fullShare Finset.univ (outV m ρ c)) := by
  unfold Wt Landed Rest OutP Ended Bufs Ops
  rw [w_pieces, sources, show backOrder.take 35 = backOrder from rfl]
  iintro ⟨-, -, HO, -, -, Hsv, ⟨Hn, Hs, Hf⟩, ⟨Hrv, Hk⟩, Hb, -, Hx16, ⟨%f, %hf, Hout⟩, Hw, Hx, Hsx, Hsw⟩
  ihave Hp := (landed_free.trans (Entails.of_eq places.symm)) $$ [Hn Hk]
  · isplitl [Hn] <;> iassumption
  icases Hp with ⟨Hm, Hcw, Hccw, Hrcv⟩
  isplitl [Hx16 Hm Hcw Hccw Hrcv Hs Hsv Hrv Hb]
  · isplitl [Hx16 Hm Hcw Hccw Hrcv Hs]
    · isplitl [Hx16]; · iapply (room_of_own (M := x16M)); iexact Hx16
      isplitl [Hm]; · iexact Hm
      isplitl [Hcw]; · iexact Hcw
      isplitl [Hccw]; · iexact Hccw
      isplitl [Hs]; · iapply slots_free; iexact Hs
      iexact Hrcv
    isplitl [Hsv]; · iexact Hsv
    isplitl [Hrv] <;> iassumption
  isplitl [HO]; · iexact HO
  isplitl [Hsx Hsw Hx Hf Hw]
  · isplitl [Hsx]; · iexact Hsx
    isplitl [Hsw]; · iexact Hsw
    isplitl [Hx]; · iexact Hx
    isplitl [Hf] <;> iassumption
  iapply (Entails.of_eq (own_congr (M := outM) fun i _ => hf i (done_all c _)))
  iexact Hout

end Cert.MM
-- ==== Proof.Sound.lean ====
/-
# The body of a device

The pipeline's proof data, and the body from what the launch gives to what it takes back.
-/
module
public import proofs.«01_k».proof.Proof.Ends
public import proofs.«01_k».proof.Proof.Gen.KernelIdeal.Launch
public import proofs.«01_k».proof.Proof.Gen.KernelIdeal.Points

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from beside the buffers. -/
def start (c : Dev nD) : PP F := iprop((∃ K, ghost m ρ K c) ∗ creds c ∗ levAts L lv)

def Φ₀ (c : Dev nD) : PP F := iprop(start m ρ c ∗ Bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => SX m ρ c
    | ⟨1, _⟩ => SW m ρ c
    | ⟨2, _⟩ => X m ρ c
    | ⟨3, _⟩ => W m ρ c
    | ⟨4, _⟩ => outV m ρ c
  Φ t := match t with
    | ⟨0, _⟩ => Φ₀ m ρ c
    | ⟨_ + 1, _⟩ => Ended c
  q _ := fullShare
  owed t := match t with
    | ⟨0, _⟩ => oweB c offs
    | ⟨_ + 1, _⟩ => 0

theorem bigSep_W (Φ : Fin cfg0.W → PP F) : bigSep Finset.univ Φ = iprop(Φ (0 : Fin 5) ∗ Φ (1 : Fin 5) ∗ Φ (2 : Fin 5) ∗ Φ (3 : Fin 5) ∗ Φ (4 : Fin 5)) := bigSep_W0 Φ

def stg (c : Dev nD) (b : Ref sig .tc) (X : b.ty.Contents (Elt F)) : PP F := owns (c : Thread nD τ) (Memref.whole b) fullShare X

theorem stg_eq (c : Dev nD) (b : Ref sig .tc) (X : b.ty.Contents (Elt F)) : stg c b X = own c (Memref.whole b) fullShare Finset.univ X := own_univ X

def bodyPre (c : Dev nD) : PP F :=
  iprop(Φ₀ m ρ c ∗ (dats m ρ 0 c).owesAt () t₀.castSucc
    ∗ (∃ d, stg c cc0_stg0_0 ((dats m ρ 0 c).before (0 : Fin 5) t₀ d)) ∗ (∃ d, stg c cc0_stg1_0 ((dats m ρ 0 c).before (1 : Fin 5) t₀ d))
    ∗ (∃ d, stg c cc0_stg2_0 ((dats m ρ 0 c).before (2 : Fin 5) t₀ d)) ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : PP F :=
  iprop(Ended c ∗ (dats m ρ 0 c).owesAt () t₀.succ
    ∗ stg c cc0_stg0_0 (SX m ρ c) ∗ stg c cc0_stg1_0 (SW m ρ c) ∗ stg c cc0_stg2_0 (X m ρ c) ∗ stg c cc0_stg3_0 (W m ρ c)
    ∗ stg c cc0_stg4_0 (outV m ρ c))

theorem before_0 (c : Dev nD) (d) : (dats m ρ 0 c).before (0 : Fin 5) t₀ d = SX m ρ c := by
  unfold Dat.before; rw [if_pos (fetch0_0 t₀)]; rfl
theorem before_1 (c : Dev nD) (d) : (dats m ρ 0 c).before (1 : Fin 5) t₀ d = SW m ρ c := by
  unfold Dat.before; rw [if_pos (fetch0_1 t₀)]; rfl
theorem before_2 (c : Dev nD) (d) : (dats m ρ 0 c).before (2 : Fin 5) t₀ d = X m ρ c := by
  unfold Dat.before; rw [if_pos (fetch0_2 t₀)]; rfl
theorem before_3 (c : Dev nD) (d) : (dats m ρ 0 c).before (3 : Fin 5) t₀ d = W m ρ c := by
  unfold Dat.before; rw [if_pos (fetch0_3 t₀)]; rfl

theorem sound (c : Dev nD) : bodyPre m ρ c ⊢ Wp c (ap (cc0_body (F := F))) (fun _ => bodyPost m ρ c) := by
  unfold bodyPre Φ₀ start
  simp only [before_0, before_1, before_2, before_3, stg_eq]
  iintro ⟨⟨⟨⟨%K, Hg⟩, Hc, Hl⟩, HB⟩, Ho, ⟨%d0, H0⟩, ⟨%d1, H1⟩, ⟨%d2, H2⟩, ⟨%d3, H3⟩, ⟨%d4, H4⟩⟩
  iapply (enter (m := m) (ρ := ρ) (K := K) (c := c) (Q := Wp c (ap (cc0_body (F := F))) (fun _ => bodyPost m ρ c)) fun Y => body_wp (leave.trans ?_))
  · unfold bodyPost Dat.owesAt Pipeline.owesWithin Ops
    simp only [stg_eq]
    iintro ⟨HE, ⟨%V, HO⟩, ⟨H0, H1, H2, H3⟩, H4⟩
    isplitl [HE]; · iexact HE
    isplitl [HO]
    · iexists V
      isplitr
      · ipureintro; exact fun _ _ => Or.inl trivial
      · iexact HO
    isplitl [H0]; · iexact H0
    isplitl [H1]; · iexact H1
    isplitl [H2]; · iexact H2
    isplitl [H3] <;> iassumption
  unfold Dat.owesAt Pipeline.owesWithin Ops
  icases Ho with ⟨%V, %hV, HO⟩
  isplitl [Hl]; · iexact Hl
  isplitl [Hg]; · iexact Hg
  isplitl [Hc]; · iexact Hc
  isplitl [HO]; · iexists V; iexact HO
  isplitl [HB]; · iexact HB
  isplitr [H4]
  · isplitl [H0]; · iexact H0
    isplitl [H1]; · iexact H1
    isplitl [H2] <;> iassumption
  iapply (room_of_own (M := outM) Finset.univ); iexact H4

theorem body_call : defs₀ (F := F) .tc cfg0.body (cfg0.bodyArgs t₀ (cfg0.slots t₀)) = ap (cc0_body (F := F)) := rfl

/-- The body obligation on core `c`. -/
theorem body_obligation (c : Dev nD) : BodyObligation (dats (F := F) m ρ 0 c) (defs₀ (F := F)) 𝒱₀ () Set.univ := fun t => by
  rw [fin_N t]
  rw [bigSep_W, bigSep_W, body_call]
  have h := sound m ρ c
  unfold Wp at h
  generalize ap (cc0_body (F := F)) = p at h ⊢
  exact h

end Cert.MM
-- ==== Proof.Alloc.lean ====
/-
# What the launch deals

The cells' records, positions and tokens, from the launch's ghost element and the zero counters, and the dealing of
the tokens to the devices that use them.
-/
module

public import proofs.«01_k».proof.Proof.Sound

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ) (ρ : Dev nD → PrngReg)

theorem ownSemFacts : Pipeline.OwnSemFacts cfg0.spec osem := by decide +kernel

theorem kcell_injective : Function.Injective (kcell : Dev nD × Option (T × Bool) → GSem nD τ sig) := by
  rintro ⟨c, k⟩ ⟨c', k'⟩ h
  have h1 : c = c' := congrArg (fun g : GSem nD τ sig => g.1.1) h
  have h2 : k = k' := csem_inj _ _ (congrArg Prod.snd h)
  rw [h1, h2]

def ringCells : Finset (GSem nD τ sig) := Finset.univ.map ⟨kcell, kcell_injective⟩

/-- One token for every cell of the exchange and every name of a duty (more than are used). -/
abbrev tokOf (x : (Dev nD × Option (T × Bool)) × Fin 8) : GSem nD τ sig × ℕ × Fin 8 := (kcell x.1, 0, x.2)
theorem tokOf_injective : Function.Injective (tokOf : (Dev nD × Option (T × Bool)) × Fin 8 → GSem nD τ sig × ℕ × Fin 8) := by
  rintro ⟨a, d⟩ ⟨a', d'⟩ h
  have h1 : a = a' := kcell_injective (congrArg Prod.fst h)
  have h2 : d = d' := congrArg (fun x : GSem nD τ sig × ℕ × Fin 8 => x.2.2) h
  rw [h1, h2]
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The tokens at `c`'s own cells. -/
def toks (c : Dev nD) : PP F :=
  bigSep Finset.univ fun k : Option (T × Bool) => bigSep Finset.univ fun d : Fin 8 => dutyTok ER (kcell (c, k)) 0 d

/-- What the launch element deals device `c`. -/
def G (c : Dev nD) : PP F :=
  iprop((bigSep Finset.univ fun k : Option (T × Bool) => roundState ER (Rd m ρ) (kcell (c, k)) 0)
    ∗ (bigSep Finset.univ fun k : Option (T × Bool) => iprop(atPos ER (kcell (c, k)) 0 (∅ : Finset (Fin 8)) 0 ∗ reached ER (kcell (c, k)) 0)) ∗ toks c)

/-- What the global step makes of it. -/
def G' (c : Dev nD) : PP F := iprop(∃ K, ghost m ρ K c)

theorem fund_ring : BI.own (ER (initOf ringCells ringToks)) ⊢ (|==> bigSep Finset.univ (G m ρ) : PP F) := by
  have hX (Φ : GSem nD τ sig → PP F) : bigSep ringCells Φ = bigSep Finset.univ fun c : Dev nD => bigSep Finset.univ fun k : Option (T × Bool) => Φ (kcell (c, k)) := by
    unfold ringCells; rw [bigSep_map, bigSep_univ_prod]; rfl
  have hT : bigSep ringToks (fun x => (dutyTok ER x.1 x.2.1 x.2.2 : PP F)) = bigSep Finset.univ fun c : Dev nD => toks c := by
    unfold ringToks; rw [bigSep_map, bigSep_univ_prod, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 (∅ : Finset (Fin 8)) 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Families over the semaphores, as lists -/

theorem cells_list : ((none : Option (T × Bool)) :: (order.map fun t => some (t, false)) ++ recvOrder.map fun t => some (t, true)).Nodup := by
  decide +kernel
theorem mem_cells_list (k : Option (T × Bool)) : k ∈ (none : Option (T × Bool)) :: (order.map fun t => some (t, false)) ++ recvOrder.map fun t => some (t, true) := by
  rcases k with _ | ⟨t, _ | _⟩
  · exact List.mem_append_left _ List.mem_cons_self
  · exact List.mem_append_left _ (List.mem_cons_of_mem _ (List.mem_map.mpr ⟨t, mem_order t, rfl⟩))
  · exact List.mem_append_right _ (List.mem_map.mpr ⟨t, mem_recvOrder t, rfl⟩)

theorem bigSep_cells (Φ : Option (T × Bool) → PP F) : bigSep Finset.univ Φ
    = iprop((Φ none ∗ stars (fun t => Φ (some (t, false))) order) ∗ stars (fun t => Φ (some (t, true))) recvOrder) := by
  rw [stars_univ Φ _ cells_list mem_cells_list, stars_append, stars_cons, stars_map, stars_map]

theorem backOrder_nodup : backOrder.Nodup := by decide +kernel
theorem sems_list : ((backOrder.map fun t => (t, false)) ++ recvOrder.map fun t => (t, true)).Nodup := by decide +kernel
theorem mem_backOrder (t : T) : t ∈ backOrder := by revert t; decide +kernel
theorem mem_sems_list (x : T × Bool) : x ∈ (backOrder.map fun t => (t, false)) ++ recvOrder.map fun t => (t, true) := by
  rcases x with ⟨t, _ | _⟩
  · exact List.mem_append_left _ (List.mem_map.mpr ⟨t, mem_backOrder t, rfl⟩)
  · exact List.mem_append_right _ (List.mem_map.mpr ⟨t, mem_recvOrder t, rfl⟩)

theorem order_eq_back (Φ : T → PP F) : stars Φ order = stars Φ backOrder :=
  (stars_univ Φ order order_nodup mem_order).symm.trans (stars_univ Φ backOrder backOrder_nodup mem_backOrder)

theorem ownSems0_eq (c : Dev nD) : (Pipeline.ownSems0 (Ix := Unit) (Name := ℕ) (U := UU) (Lvl := ℕ) (Val := Elt F) (τ := τ) osem c : PP F)
    = iprop(stars (fun t => semVal (sendCell t c) 0) backOrder ∗ stars (fun t => semVal (recvCell t c) 0) recvOrder) := by
  unfold Pipeline.ownSems0
  rw [stars_univ _ _ sems_list mem_sems_list, stars_append, stars_map, stars_map]; rfl

theorem unscopedSems0_eq (c : Dev nD) : (unscopedSems0 c : PP F) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (T × Bool) => semVal (kcell (c, k)) 0 : PP F) := by
  rw [ownSems0_eq, unscopedSems0_eq, bigSep_cells, ← order_eq_back]
  iintro ⟨⟨HS, HV⟩, HB⟩
  isplitl [HB HS]
  · isplitl [HB]; · iexact HB
    iexact HS
  · iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 (∅ : Finset (Fin 8)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (T × Bool) => semVal (kcell (c, k)) 0)
        ∗ bigSep Finset.univ fun k : Option (T × Bool) => roundState ER (Rd m ρ) (kcell (c, k)) 0)
      ⊢ (|={Set.univ}=> bigSep Finset.univ fun k => iprop(∃ κ : ℕ, cellInv ER (Rd m ρ) κ (kcell (c, k))) : PP F) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- The circle of eight, turned by `o`, -/
def offE (o : Fin 8) : Dev nD ≃ Dev nD where
  toFun c := off c o
  invFun e := off e (-o)
  left_inv := by revert o; decide +kernel
  right_inv := by revert o; decide +kernel
/-- and the targets of a transfer. -/
def tgtE (t : T) : Dev nD ≃ Dev nD where
  toFun := tgt t
  invFun := snd t
  left_inv := snd_tgt t
  right_inv := tgt_snd t

theorem bigSep_stars {ι : Type} (Φ : Dev nD → ι → PP F) (l : List ι) :
    (bigSep Finset.univ fun c : Dev nD => stars (Φ c) l) = stars (fun i => bigSep Finset.univ fun c : Dev nD => Φ c i) l := by
  induction l with
  | nil => exact bigSep_emp_const _
  | cons i l ih =>
    rw [stars_cons, ← ih, ← bigSep_sep']; rfl

theorem toks_own (c : Dev nD) : toks (F := F) c ⊢ iprop(stars (fun o => dutyTok ER (barCell c) 0 o) offs
    ∗ stars (fun t => iprop(dutyTok ER (sendCell t c) 0 (0 : Fin 8) ∗ dutyTok ER (recvCell t c) 0 (0 : Fin 8))) order) := by
  have h0 (g : GSem nD τ sig) : (bigSep Finset.univ fun d : Fin 8 => (dutyTok ER g 0 d : PP F)) ⊢ dutyTok ER g 0 (0 : Fin 8) := bigSep_elim (Finset.mem_univ 0)
  have hb (g : GSem nD τ sig) : (bigSep Finset.univ fun d : Fin 8 => (dutyTok ER g 0 d : PP F)) ⊢ stars (fun o => dutyTok ER g 0 o) offs := by
    rw [stars_eq_bigSep _ offs (by decide)]; exact bigSep_subset (Finset.subset_univ _)
  have hr (Φ : T → PP F) : stars Φ recvOrder = stars Φ order :=
    (stars_univ Φ recvOrder recvOrder_nodup mem_recvOrder).symm.trans (stars_univ Φ order order_nodup mem_order)
  unfold toks
  rw [bigSep_cells, hr, stars_sep (fun t => dutyTok ER (sendCell t c) 0 (0 : Fin 8)) (fun t => dutyTok ER (recvCell t c) 0 (0 : Fin 8))]
  iintro ⟨⟨HB, HS⟩, HR⟩
  isplitl [HB]; · iapply (hb (barCell c)); iexact HB
  isplitl [HS]
  · iapply (stars_mono (Φ := fun t => bigSep Finset.univ fun d : Fin 8 => (dutyTok ER (sendCell t c) 0 d : PP F)) order fun t _ => h0 (sendCell t c)); iexact HS
  · iapply (stars_mono (Φ := fun t => bigSep Finset.univ fun d : Fin 8 => (dutyTok ER (recvCell t c) 0 d : PP F)) order fun t _ => h0 (recvCell t c)); iexact HR

theorem toks_around : (bigSep Finset.univ fun c : Dev nD => (toks c : PP F)) ⊢ bigSep Finset.univ fun c : Dev nD => payToks c := by
  refine BIBase.Entails.trans (bigSep_mono fun c _ => toks_own c) (Entails.of_eq ?_)
  unfold payToks
  rw [bigSep_sep', bigSep_sep', bigSep_stars, bigSep_stars, bigSep_stars, bigSep_stars]
  congr 1
  · exact stars_congr _ fun o _ => bigSep_univ_equiv (offE o) (fun c : Dev nD => (dutyTok ER (barCell c) 0 o : PP F))
  · refine stars_congr _ fun t _ => ?_
    rw [bigSep_sep', bigSep_sep', bigSep_univ_equiv (tgtE t) (fun c : Dev nD => (dutyTok ER (recvCell t c) 0 (0 : Fin 8) : PP F))]
    rfl

theorem bigSep_with_persistent {I : Type} [DecidableEq I] {S : Finset I} {R : PP F} [BI.Persistent R] {Φ Ψ : I → PP F}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places0_eq (c : Dev nD) : (bigSep Finset.univ fun k : Option (T × Bool) => (atPos ER (kcell (c, k)) 0 (∅ : Finset (Fin 8)) 0 : PP F)) ⊢ places0 c := by
  unfold places0; rw [bigSep_cells]
  iintro ⟨⟨HB, HS⟩, HR⟩
  isplitl [HB]; · iexact HB
  isplitl [HR]; · iexact HR
  iexact HS

theorem places0_all : (bigSep Finset.univ fun c : Dev nD => bigSep Finset.univ fun k : Option (T × Bool) => (atPos ER (kcell (c, k)) 0 (∅ : Finset (Fin 8)) 0 : PP F))
    ⊢ bigSep Finset.univ fun c : Dev nD => (places0 c : PP F) := bigSep_mono fun c _ => places0_eq c

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 (∅ : Finset (Fin 8)) 0 ∗ reached ER (kcell (c, k)) 0)) ∗ toks c) : PP F)
      ⊢ bigSep Finset.univ (G' m ρ) := by
  rw [bigSep_sep', bigSep_sep', ← bigSep_univ_prod (fun ck : Dev nD × Option (T × Bool) => iprop(∃ κ : ℕ, cellInv ER (Rd m ρ) κ (kcell ck))),
    bigSep_congr (s := Finset.univ) (fun (c : Dev nD) _ => bigSep_sep' Finset.univ (fun k : Option (T × Bool) => (atPos ER (kcell (c, k)) 0 (∅ : Finset (Fin 8)) 0 : PP F)) (fun k => reached ER (kcell (c, k)) 0)),
    bigSep_sep', ← bigSep_univ_prod (fun ck : Dev nD × Option (T × Bool) => (reached ER (kcell ck) 0 : PP F))]
  iintro ⟨HI, ⟨Hat, #HR⟩, Htok⟩
  ihave HK := (BI.bigSep_exists_pi Finset.univ (fun (ck : Dev nD × Option (T × Bool)) (κ : ℕ) => (cellInv ER (Rd m ρ) κ (kcell ck) : PP F))) $$ HI
  icases HK with ⟨%K, #HI⟩
  ihave Htk := (toks_around (F := F)) $$ Htok
  iapply (bigSep_with_persistent (R := recs m ρ K) (Φ := fun c => iprop(places0 c ∗ payToks c)) fun c _ => by
    unfold G' ghost
    iintro ⟨#Hr, Hp, Ht⟩
    iexists K
    isplitr; · iexact Hr
    isplitl [Hp] <;> iassumption)
  isplitr
  · unfold recs
    iapply (Entails.of_eq (bigSep_sep' Finset.univ (fun ck => (cellInv ER (Rd m ρ) (K ck) (kcell ck) : PP F)) (fun ck => reached ER (kcell ck) 0)).symm)
    isplitl; · iexact HI
    iexact HR
  · iapply (Entails.of_eq (bigSep_sep' Finset.univ (fun c : Dev nD => (places0 c : PP F)) payToks).symm)
    isplitl [Hat]
    · iapply (places0_all (F := F))
      iexact Hat
    iexact Htk

/-- The global step: all semaphores of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : PP F)
    ⊢ |={Set.univ}=> bigSep Finset.univ (G' m ρ) :=
  ((bigSep_mono fun c _ => core_alloc m ρ c).trans (bigSep_fupd _ _)).trans (BI.fupd_mono (regroup m ρ))

end Cert.MM
-- ==== Proof.Credit.lean ====
/-
# The credit at launch

What the devices owe each other at launch, cell by cell.
-/
module

public import proofs.«01_k».proof.Proof.Alloc

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt F) ℓ) (ρ : Dev nD → PrngReg)

theorem recv_eq_iff {t t' : T} {a b : Dev nD} : recvCell t a = recvCell t' b ↔ t = t' ∧ a = b := by
  constructor
  · intro h
    have := kcell_injective (a₁ := (a, some (t, true))) (a₂ := (b, some (t', true))) h
    simp only [Prod.mk.injEq, Option.some.injEq, and_true] at this
    exact ⟨this.2, this.1⟩
  · rintro ⟨rfl, rfl⟩; rfl
theorem bar_eq_iff {a b : Dev nD} : barCell a = barCell b ↔ a = b :=
  ⟨fun h => congrArg (fun g : GSem nD τ sig => g.1.1) h, fun h => h ▸ rfl⟩
theorem bar_ne_recv (t : T) (a b : Dev nD) : barCell a ≠ recvCell t b := fun h => nomatch (congrArg Prod.snd h : SemLoc.reg barS = SemLoc.dma _)

theorem oweL_bar (d c : Dev nD) : ∀ l : List T, oweL d l (barCell c) () = 0
  | [] => rfl
  | t :: l => by
    unfold oweL
    rw [Pi.add_apply, Finsupp.add_apply, tallyAt_apply, oweL_bar d c l, if_neg fun h => bar_ne_recv _ _ _ h.1]
theorem oweB_bar (d c : Dev nD) : ∀ l : List (Fin 8), oweB d l (barCell c) () = (l.map fun o => if c = off d o then 1 else 0).sum
  | [] => oweL_bar d c order
  | o :: l => by
    unfold oweB
    rw [Pi.add_apply, Finsupp.add_apply, tallyAt_apply, oweB_bar d c l, List.map_cons, List.sum_cons, Nat.add_comm]
    congr 1
    exact if_congr ⟨fun h => bar_eq_iff.mp h.1, fun h => ⟨bar_eq_iff.mpr h, rfl⟩⟩ rfl rfl
theorem oweL_recv (d c : Dev nD) (t : T) : ∀ l : List T, oweL d l (recvCell t c) () = if d = snd t c then l.count t * amt t else 0
  | [] => by rw [List.count_nil, Nat.zero_mul, ite_self]; rfl
  | t' :: l => by
    unfold oweL
    rw [Pi.add_apply, Finsupp.add_apply, tallyAt_apply, oweL_recv d c t l, List.count_cons]
    by_cases h : t' = t
    · subst h
      by_cases hd : d = snd t' c
      · subst hd
        rw [if_pos rfl, if_pos rfl, if_pos ⟨by rw [tgt_snd], rfl⟩, if_pos (beq_self_eq_true _), Nat.add_mul, Nat.one_mul]
      · rw [if_neg hd, if_neg hd, if_neg]
        rintro ⟨h, -⟩
        exact hd (by rw [(recv_eq_iff.mp h).2, snd_tgt])
    · have h1 : ¬ (recvCell t c = recvCell t' (tgt t' d) ∧ () = ()) := fun h' => h (recv_eq_iff.mp h'.1).1.symm
      have h2 : ¬ (t' == t) = true := fun h' => h (beq_iff_eq.mp h')
      rw [if_neg h1, if_neg h2, Nat.add_zero, Nat.add_zero]
theorem oweB_recv (d c : Dev nD) (t : T) : ∀ l : List (Fin 8), oweB d l (recvCell t c) () = if d = snd t c then amt t else 0
  | [] => by
    show oweL d order (recvCell t c) () = _
    rw [oweL_recv, List.count_eq_one_of_mem order_nodup (mem_order t), Nat.one_mul]
  | o :: l => by
    unfold oweB
    have h1 : ¬ (recvCell t c = barCell (off d o) ∧ () = ()) := fun h => bar_ne_recv _ _ _ h.1.symm
    rw [Pi.add_apply, Finsupp.add_apply, tallyAt_apply, oweB_recv d c t l, if_neg h1, Nat.add_zero]

theorem signals (c : Dev nD) : ∑ d : Dev nD, (offs.map fun o => if c = off d o then 1 else 0).sum = 7 := by revert c; decide +kernel

/-- What a device owes at launch. -/
def O₀ (c : Dev nD) : CellTallies nD τ sig Unit := oweB c offs

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from oweB_bar d c offs, signals]

theorem launch_recv (t : T) (c : Dev nD) :
    tallyOn (recvCell t c) (launchCredit (Pipeline.owing O₀) 0 (recvCell t c)) = (tallyAt (recvCell t c) () (amt t) : CellTallies nD τ sig Unit) := by
  unfold tallyAt; refine congrArg _ (Finsupp.ext fun u => ?_); cases u
  rw [Pipeline.launchCredit_owing, Finsupp.single_eq_same, Finset.sum_congr rfl fun d _ => show O₀ d (recvCell t c) () = _ from oweB_recv d c t offs,
    Finset.sum_ite_eq' Finset.univ (snd t c) fun _ => amt t, if_pos (Finset.mem_univ _)]

theorem cred_list : (SemLoc.reg barS :: recvOrder.map fun t => (SemLoc.dma (recvA t).sem : SemLoc sig)).Nodup := by
  refine List.nodup_cons.mpr ⟨fun h => ?_, List.Nodup.map (fun t t' h => ?_) recvOrder_nodup⟩
  · obtain ⟨t, -, ht⟩ := List.mem_map.mp h; exact nomatch ht
  · have := osem_inj (t, true) (t', true) h; exact congrArg Prod.fst this

theorem creds_intro (c : Dev nD) : (Pipeline.launchCred O₀ c : PP F) ⊢ creds c := by
  unfold Pipeline.launchCred creds
  refine BIBase.Entails.trans (bigSep_subset (Finset.subset_univ _)) (BIBase.Entails.trans (Entails.of_eq (stars_eq_bigSep _ _ cred_list).symm) (Entails.of_eq ?_))
  rw [stars_cons, stars_map, launch_bar]
  exact congrArg _ (stars_congr _ fun t _ => by rw [launch_recv])

end Cert.MM
-- ==== Proof.Run.lean ====
/-
# The run

Every run of the kernel's program ends, with every semaphore at zero and every array at its computed contents.
-/
module

public import proofs.«01_k».proof.Proof.Credit
public import Idealize.ShloMosaic.Lib.Pipeline.CollectiveSegs

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem bufs_eq (c : Dev nD) : (Pipeline.scopedRest (Ix := Unit) (Name := ℕ) (U := UU) (Lvl := ℕ) (Val := Elt F) cfg0.spec c : PP F) = Bufs c := by
  rw [scopedRest0_eq, room_whole, room_whole, room_whole, room_whole, room_whole, room_whole]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Ended c from rfl, bufs_eq, ownSems0_eq, unscopedSems0_eq]
  unfold Ended
  iintro ⟨Hr, HS, HV, HB⟩
  isplitl [HB]; · iexact HB
  isplitl [HS HV]
  · isplitl [HS] <;> iassumption
  iexact Hr

theorem stage_level (c : Dev nD) (w : Fin cfg0.W) (s) : lv ((c : Thread nD τ), SemLoc.dma ((cfg0.win w).sem s)) () ≤ 0 := by
  unfold lv
  have h : ¬ ∃ k, csem k = SemLoc.dma ((cfg0.win w).sem s) := by
    rintro ⟨_ | k, hk⟩
    · exact nomatch hk
    · exact ownSemFacts.disj k w s hk
  rw [show kindOf (SemLoc.dma ((cfg0.win w).sem s)) = none from by unfold kindOf; exact dif_neg h]
  exact Nat.le_refl 0

theorem waits (c : Dev nD) : (levAts L lv : PP F) ⊢ Pipeline.cellsWaits cfgs (dats m ρ) () 0 c :=
  Pipeline.cellsWaits_intro cfgs (dats m ρ) () 0 c fun w s t => by
    rcases t with ⟨_ | _, ht⟩
    · exact mayWait_oweB c _ (stage_level c w s) offs
    · show (levAts L lv : PP F) ⊢ MayWait (c : Thread nD τ) _ () 0
      rw [MayWait_zero]; iintro -; iempintro

/-- What array `w` of `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 50000 in
/-- From any memory with zero counters every fair run of the eight devices ends, with the arrays at `finalA` and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold at the end what they held; -/
theorem finalA_in (c : Dev nD) : finalA m ρ c (0 : Fin 5) = m (win0_0.arr.view.loc (c : Thread nD τ)) ∧ finalA m ρ c (1 : Fin 5) = m (win0_1.arr.view.loc (c : Thread nD τ))
    ∧ finalA m ρ c (2 : Fin 5) = m (win0_2.arr.view.loc (c : Thread nD τ)) ∧ finalA m ρ c (3 : Fin 5) = m (win0_3.arr.view.loc (c : Thread nD τ)) :=
  ⟨(dats (F := F) m ρ 0 c).arrAt_in (0 : Fin 5) rfl _, (dats (F := F) m ρ 0 c).arrAt_in (1 : Fin 5) rfl _,
    (dats (F := F) m ρ 0 c).arrAt_in (2 : Fin 5) rfl _, (dats (F := F) m ρ 0 c).arrAt_in (3 : Fin 5) rfl _⟩

end Cert.MM
-- ==== Proof.Arrays.lean ====
/-
# What the arrays hold

The result's array ends with the computed contents, and the staged operands are the operands' arrays.
-/
module

public import proofs.«01_k».proof.Proof.Run
public import Idealize.ShloMosaic.Lib.Pipeline.ValueKit

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt F) ℓ) (ρ : Dev nD → PrngReg)

theorem idx0 : ∀ t : Fin grid0.N, win0_0.index t = ![0] := by decide +kernel
theorem idx1 : ∀ t : Fin grid0.N, win0_1.index t = ![0] := by decide +kernel
theorem idx2 : ∀ t : Fin grid0.N, win0_2.index t = ![0, 0] := by decide +kernel
theorem idx3 : ∀ t : Fin grid0.N, win0_3.index t = ![0, 0] := by decide +kernel

theorem SX_eq (c : Dev nD) : SX m ρ c = m ((c : Thread nD τ).loc main_arg2) := by
  blk_ext! [SX, s₀, idx0 (0 : Fin 1)]
theorem SW_eq (c : Dev nD) : SW m ρ c = m ((c : Thread nD τ).loc main_arg3) := by
  blk_ext! [SW, s₀, idx1 (0 : Fin 1)]
theorem X_eq (c : Dev nD) : X m ρ c = m ((c : Thread nD τ).loc main_arg0) := by
  blk_ext! [X, s₀, idx2 (0 : Fin 1)]
theorem W_eq (c : Dev nD) : W m ρ c = m ((c : Thread nD τ).loc main_arg1) := by
  blk_ext! [W, s₀, idx3 (0 : Fin 1)]

/-- The result's array ends at `outV`. -/
theorem finalA_out (c : Dev nD) : finalA m ρ c (4 : Fin 5) = outV m ρ c := by
  refine (dats m ρ 0 c).arrAt_eq_of_after_last (4 : Fin 5) t₀ (by decide +kernel) _ fun j => ?_
  blk_simp
  rfl

end Cert.MM
-- ==== Proof.Reals.lean ====
/-
# The blocks over the reals

At `Ideal` every block of the result is the sum of the products, times the product of the two scales.
-/
module

public import proofs.«01_k».proof.Proof.Arrays
public import Idealize.ShloMosaic.Lib.MatmulPlain

@[expose] public section

noncomputable section

namespace Cert.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- Row `r` of `x` times column `l` of `w`. -/
def dotRow (x : S512x4096.Idx → Elt Ideal .fp8e4m3) (w : S4096x256.Idx → Elt Ideal .fp8e5m2) (r : Fin 512) (l : Fin 256) : EReal :=
  ∑ k : Fin 4096, (x (ValueIdx.ix2 r k) * w (ValueIdx.ix2 k l) : EReal)

theorem x16V_apply (c : Dev nD) (i : S512x4096.Idx) : (x16V m ρ c i : EReal) = X m ρ c i := by
  have h : x16V m ρ c = (extf .bf16 (X m ρ c : FVec Ideal S512x4096 .fp8e4m3) bitsLt_fp8e4m3_bf16 : FVec Ideal S512x4096 .bf16) := by
    unfold x16V k0_pay3 k0_pay2; dsimp only; rw [shapeCast_self, shapeCast_self]
  rw [h]; rfl

/-- The whole product in one go; -/
theorem pay4_apply (s : EReal) (x : FVec Ideal S512x4096 .bf16) (w : S4096x256.Idx → Elt Ideal .fp8e5m2) (r : Fin 512) (l : Fin 256) :
    k0_pay4 (F := Ideal) s x w (ValueIdx.ix2 r l) = (∑ k : Fin 4096, (x (ValueIdx.ix2 r k) * w (ValueIdx.ix2 k l) : EReal)) * s := by
  have h := Ideal.matmul_plain_apply (M := 512) (K := 4096) (N := 256) (φ₁ := .bf16) none x
    (extf .bf16 w bitsLt_fp8e5m2_bf16 : FVec Ideal _ .bf16) (constant _ .f32 0x00000000#32) r l
  rw [show (constant ⟨2, ![512, 256]⟩ .f32 0x00000000#32 : FVec Ideal _ .f32) (ValueIdx.ix2 r l) = (0 : EReal) from Idealize.ShloMosaic.Ideal.ofBits_zero_f32, zero_add] at h
  unfold k0_pay4; rw [shapeCast_self]
  exact congrArg (· * s) h

theorem half_apply (x : FVec Ideal S512x2048 .bf16) (w : S2048x256.Idx → Elt Ideal .fp8e5m2) (r : Fin 512) (l : Fin 256) :
    matmul dot_S512x2048_S2048x256_S512x256_1_0_0_1_n_n none x
      (extf .bf16 w bitsLt_fp8e5m2_bf16 : FVec Ideal _ .bf16) (constant _ .f32 0x00000000#32) (ValueIdx.ix2 r l)
    = ∑ k : Fin 2048, (x (ValueIdx.ix2 r k) * w (ValueIdx.ix2 k l) : EReal) := by
  have h := Ideal.matmul_plain_apply (M := 512) (K := 2048) (N := 256) (φ₁ := .bf16) none x
    (extf .bf16 w bitsLt_fp8e5m2_bf16 : FVec Ideal _ .bf16) (constant _ .f32 0x00000000#32) r l
  rw [show (constant ⟨2, ![512, 256]⟩ .f32 0x00000000#32 : FVec Ideal _ .f32) (ValueIdx.ix2 r l) = (0 : EReal) from Idealize.ShloMosaic.Ideal.ofBits_zero_f32, zero_add] at h
  exact h

/-- and by its two halves, through the format it travels in. -/
theorem pay15_apply (s : EReal) (x x' : FVec Ideal S512x2048 .bf16) (w w' : S2048x256.Idx → Elt Ideal .fp8e5m2) (r : Fin 512) (l : Fin 256) :
    k0_pay15 (F := Ideal) (k0_pay5 (F := Ideal) s w w' x x') (ValueIdx.ix2 r l)
      = ((∑ k : Fin 2048, (x (ValueIdx.ix2 r k) * w (ValueIdx.ix2 k l) : EReal)) + (∑ k : Fin 2048, (x' (ValueIdx.ix2 r k) * w' (ValueIdx.ix2 k l) : EReal))) * s := by
  rw [← half_apply, ← half_apply]
  unfold k0_pay15 k0_pay5; dsimp only
  rw [shapeCast_shapeCast]
  rfl

/-- A sum over the rows of `w` is the sum over the upper half and that over the lower. -/
theorem sum_halves (f : Fin 4096 → EReal) : (∑ k : Fin 2048, f (row 0 k.val)) + (∑ k : Fin 2048, f (row 2048 k.val)) = ∑ k, f k := by
  have h := Fin.sum_univ_add (a := 2048) (b := 2048) (M := EReal) f
  refine Eq.trans ?_ h.symm
  congr 1 <;> refine Finset.sum_congr rfl fun k _ => congrArg f (Fin.ext ?_)

/-- Block `e` of the result of `c`: the rows that `e` has of `x` times the columns that `c` has of `w`. -/
theorem outB_apply (c e : Dev nD) (r : Fin 512) (l : Fin 256) :
    outB m ρ c e (ValueIdx.ix2 r l) = dotRow (X m ρ e) (W m ρ c) r l * sc m ρ e := by
  unfold outB
  split
  · subst_vars
    rw [pay4_apply]
    unfold dotRow
    simp only [x16V_apply]
  · unfold res3
    rw [pay15_apply]
    unfold dotRow
    rw [← sum_halves]
    unfold xl xr whalf
    simp only [x16V_apply]

end Cert.MM
-- ==== Proof.RefValue.lean ====
/-
# The reference's result

The one program on one device: its result array ends holding the product of the two arrays, scaled.
-/
module

public import proofs.«01_k».proof.Proof.Gen.ReferenceIdeal.Frame
public import Idealize.ShloMosaic.Lib.Pipeline.ValueKit
public import Idealize.ShloMosaic.Lib.MatmulPlain
public import Idealize.ShloMosaic.Lib.ValueLayout

@[expose] public section

noncomputable section

namespace Cert.Ref

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0] := (by decide +kernel : ∀ t : Fin grid0.N, _)
theorem idx3 : ∀ t : Fin cfg0.N, win0_3.index t = ![0] := (by decide +kernel : ∀ t : Fin grid0.N, _)

theorem iblk0 (c : Dev nD) (t : Fin cfg0.N) : iblk m c 0 t = m ((c : Thread nD τ).loc main_arg0) := by
  blk_ext! [iblk, V, idx0 t]
theorem iblk1 (c : Dev nD) (t : Fin cfg0.N) : iblk m c 1 t = m ((c : Thread nD τ).loc main_arg1) := by
  blk_ext! [iblk, V, idx1 t]
theorem iblk2 (c : Dev nD) (t : Fin cfg0.N) : iblk m c 2 t = m ((c : Thread nD τ).loc main_arg2) := by
  blk_ext! [iblk, V, idx2 t]
theorem iblk3 (c : Dev nD) (t : Fin cfg0.N) : iblk m c 3 t = m ((c : Thread nD τ).loc main_arg3) := by
  blk_ext! [iblk, V, idx3 t]

/-- The result, of the four arguments. -/
def val (x : S4096x4096.Idx → Elt F .fp8e4m3) (w : S4096x2048.Idx → Elt F .fp8e5m2) (a b : S1.Idx → Elt F .f32) : S4096x2048.Idx → Elt F .f32 :=
  k0_pay1 x w (a (ValueIdx.ix1 0)) (b (ValueIdx.ix1 0))

/-- There is one index into an array of one. -/
theorem one (i j : S1.Idx) : i = j := by
  funext a; match a with | ⟨0, _⟩ => exact Fin.ext (by have h : (i 0).val < 1 := (i 0).isLt; have h' : (j 0).val < 1 := (j 0).isLt; show (i 0).val = (j 0).val; omega)

theorem final (c : Dev nD) : (dats m 0 c).arrAt 4 cfg0.N
    = val (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  frame_out
  rw [iblk0, iblk1, iblk2, iblk3]
  have h : ∀ {x x' : S4096x4096.Idx → Elt F .fp8e4m3} {w w' : S4096x2048.Idx → Elt F .fp8e5m2} {a a' b b' : Elt F .f32},
      x = x' → w = w' → a = a' → b = b' → k0_pay1 x w a b j = k0_pay1 x' w' a' b' j := by
    rintro _ _ _ _ _ _ _ _ rfl rfl rfl rfl; rfl
  exact h ((hstage0_0 0).read_unread _) ((hstage0_1 0).read_unread _)
    ((congrFun ((hstage0_2 0).read_unread _) _).trans (congrArg _ (one _ _)))
    ((congrFun ((hstage0_3 0).read_unread _) _).trans (congrArg _ (one _ _)))

/-- At `Ideal`: the sum of the products, times the product of the scales. -/
theorem val_apply (x : S4096x4096.Idx → Elt Ideal .fp8e4m3) (w : S4096x2048.Idx → Elt Ideal .fp8e5m2) (a b : S1.Idx → Elt Ideal .f32)
    (r : Fin 4096) (l : Fin 2048) :
    val x w a b (ValueIdx.ix2 r l)
      = (∑ k : Fin 4096, (x (ValueIdx.ix2 r k) * w (ValueIdx.ix2 k l) : EReal)) * (a (ValueIdx.ix1 0) * b (ValueIdx.ix1 0) : EReal) := by
  have h := Ideal.matmul_plain_apply (M := 4096) (K := 4096) (N := 2048) none (extf .f32 x bitsLt_fp8e4m3_f32 : FVec Ideal _ .f32)
    (extf .f32 w bitsLt_fp8e5m2_f32 : FVec Ideal _ .f32) (constant _ .f32 0x00000000#32) r l
  rw [show (constant ⟨2, ![4096, 2048]⟩ .f32 0x00000000#32 : FVec Ideal _ .f32) (ValueIdx.ix2 r l) = (0 : EReal) from Idealize.ShloMosaic.Ideal.ofBits_zero_f32, zero_add] at h
  exact congrArg (· * (a (ValueIdx.ix1 0) * b (ValueIdx.ix1 0) : EReal)) h

end Cert.Ref
-- ==== Proof.Same.lean ====
/-
# The two programs are one

The kernel's program and the one printed for the reals have the same text: their body tables are equal.
-/
module

public import proofs.«01_k».proof.Defs
public import proofs.«01_k».proof.Proof.Gen.Kernel
public import proofs.«01_k».proof.Proof.Gen.KernelIdeal

@[expose] public section

noncomputable section

namespace Cert.MM

open Idealize.ShloMosaic Idealize.SL.Sem

variable {F : FTy → Type} [FloatOps F]

/-- The bodies are equal, -/
theorem body_same : Cert.Kernel.cc0_body (F := F) = Cert.KernelIdeal.cc0_body (F := F) := rfl

/-- so are the tables of bodies, -/
theorem defs₀_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | ⟨0, _⟩, (t, s) => dsimp only; rfl

/-- and those of the whole programs. -/
theorem defs_same : Cert.Kernel.defs (F := F) = Cert.KernelIdeal.defs (F := F) :=
  congrArg (Pipeline.defs (Cert.KernelIdeal.pcfgs (F := F))) defs₀_same

/-- What every run of the one does, every run of the other does. -/
theorem run_same {s : MemSt Cert.KernelIdeal.nD Cert.KernelIdeal.τ Cert.KernelIdeal.sig (Elt F)}
    {Q : PUnit × MemSt Cert.KernelIdeal.nD Cert.KernelIdeal.τ Cert.KernelIdeal.sig (Elt F) → Prop}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun D => θ_run D (onTc (τ := Cert.KernelIdeal.τ) (Cert.KernelIdeal.main (F := F))) s Q) defs_same).mpr h

end Cert.MM
-- ==== Proof.Claims.lean ====
/-
# The claims

The frames of the kernel at both instances, and the kernel's result against the reference's over the reals.
-/
module

public import proofs.«01_k».proof.Defs
public import proofs.«01_k».proof.Proof.Reals
public import proofs.«01_k».proof.Proof.RefValue
public import proofs.«01_k».proof.Proof.Same
public import Idealize.ShloMosaic.Lib.Layout

@[expose] public section

noncomputable section

namespace Cert.MM

open Cert.KernelIdeal Cert.KernelIdeal.Gen
open Idealize.ShloMosaic Idealize.ShloMosaic.TcCoe Idealize.SL.Sem

section Frames

variable {F : FTy → Type} [FloatOps F]
variable (m : (ℓ : Loc nD τ sig) → Buf (Elt F) ℓ) (ρ : Dev nD → PrngReg)

/-- The run with its arrays named: the result at `outV`, the operands unchanged, the counters at zero. -/
theorem run_named : θ_run defs (onTc (τ := τ) (main (F := F))) ⟨m, fun _ => 0, ρ⟩ (fun r =>
    (∀ c : Dev nD, r.2.mem ((c : Thread nD τ).loc main_v1) = outV m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => ⟨(h.1 c (4 : Fin 5)).trans (finalA_out m ρ c),
    (h.1 c (2 : Fin 5)).trans (finalA_in m ρ c).2.2.1, (h.1 c (3 : Fin 5)).trans (finalA_in m ρ c).2.2.2,
    (h.1 c (0 : Fin 5)).trans (finalA_in m ρ c).1, (h.1 c (1 : Fin 5)).trans (finalA_in m ρ c).2.1⟩, h.2⟩) (run_main m ρ)

end Frames

/-- The frame of the program over the reals; -/
theorem frame_kernelIdeal : Cert.quiescent_KernelIdeal := fun m ρ _ =>
  (θ_run defs _ _).mono (fun _ h => ⟨fun c => (h.1 c).2, h.2⟩) (run_named (F := Ideal) m ρ)

/-- and over bit patterns. -/
theorem frame_kernel : Cert.quiescent_Kernel := fun m ρ _ =>
  (θ_run Cert.Kernel.defs _ _).mono (fun _ h => ⟨fun c => (h.1 c).2, h.2⟩) (run_same (run_named (F := Bits) m ρ))

/-- Where the blocks are parts of whole arrays, the result of `c` is its block of the reference's. -/
theorem outV_block (m : (ℓ : Loc nD τ sig) → Buf (Elt Ideal) ℓ) (ρ : Dev nD → PrngReg)
    (x : Cert.ReferenceIdeal.S4096x4096.Idx → Elt Ideal .fp8e4m3) (w : Cert.ReferenceIdeal.S4096x2048.Idx → Elt Ideal .fp8e5m2)
    (a b : Cert.ReferenceIdeal.S1.Idx → Elt Ideal .f32)
    (h : ∀ c : Dev nD,
      m ((c.tc : Thread nD τ).loc main_arg0) = Layout.block ⟨2, ![512, 4096]⟩ ⟨2, ![4096, 4096]⟩ 0 8 c x
      ∧ m ((c.tc : Thread nD τ).loc main_arg1) = Layout.block ⟨2, ![4096, 256]⟩ ⟨2, ![4096, 2048]⟩ 1 8 c w
      ∧ m ((c.tc : Thread nD τ).loc main_arg2) = a ∧ m ((c.tc : Thread nD τ).loc main_arg3) = b) (c : Dev nD) :
    outV m ρ c = Layout.block ⟨2, ![4096, 256]⟩ ⟨2, ![4096, 2048]⟩ 1 8 c (Cert.Ref.val (F := Ideal) x w a b) := by
  funext i
  obtain ⟨r, l, rfl⟩ : ∃ (r : Fin 4096) (l : Fin 256), i = ValueIdx.ix2 r l := ⟨i 0, i 1, ValueIdx.eq_ix2 i⟩
  have hl : c.val * 256 + l.val < 2048 := by have := c.isLt; have := l.isLt; change c.val < 8 at *; omega
  have hR : Layout.block ⟨2, ![4096, 256]⟩ ⟨2, ![4096, 2048]⟩ 1 8 c (Cert.Ref.val (F := Ideal) x w a b) (by decide) (ValueIdx.ix2 r l)
      = Cert.Ref.val (F := Ideal) x w a b (ValueIdx.ix2 r ⟨c.val * 256 + l.val, hl⟩) := by
    refine congrArg (Cert.Ref.val (F := Ideal) x w a b) ?_
    funext d; match d with | ⟨0, _⟩ => rfl | ⟨1, _⟩ => rfl
  refine Eq.trans ?_ hR.symm
  rw [Cert.Ref.val_apply]
  refine (outB_apply m ρ c (blkOf (ValueIdx.ix2 r l)) (rowIn (ValueIdx.ix2 r l)) l).trans ?_
  have hs : (sc m ρ (blkOf (ValueIdx.ix2 r l)) : EReal) = (a (ValueIdx.ix1 0) * b (ValueIdx.ix1 0) : EReal) := by
    unfold sc k0_pay1
    rw [SX_eq, SW_eq, (h _).2.2.1, (h _).2.2.2]
    rfl
  rw [hs]
  refine congrArg (· * (a (ValueIdx.ix1 0) * b (ValueIdx.ix1 0) : EReal)) ?_
  unfold dotRow
  refine Finset.sum_congr rfl fun k _ => ?_
  rw [X_eq, W_eq, (h _).1, (h _).2.1, Layout.block_apply, Layout.block_apply]
  refine congrArg₂ (fun u v : EReal => u * v) (congrArg x ?_) (congrArg w ?_)
  · funext d
    match d with
    | ⟨0, _⟩ => exact Fin.ext (by show r.val / 512 * 512 + r.val % 512 = r.val; omega)
    | ⟨1, _⟩ => rfl
  · funext d; match d with | ⟨0, _⟩ => rfl | ⟨1, _⟩ => rfl

/-- The kernel's result and the reference's, over the reals. -/
theorem algebraic : Cert.algebraic_KernelIdeal_ReferenceIdeal := by
  intro m g m' g' _ h
  refine ⟨Cert.Ref.val (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  rotate_left
  · exact (θ_run Cert.ReferenceIdeal.defs _ _).mono (fun _ hr => ⟨((hr 0).1 4).trans (Cert.Ref.final m' 0),
      ((hr 0).1 0).trans ((Cert.ReferenceIdeal.Gen.dats m' 0 0).arrAt_in 0 rfl _), ((hr 0).1 1).trans ((Cert.ReferenceIdeal.Gen.dats m' 0 0).arrAt_in 1 rfl _),
      ((hr 0).1 2).trans ((Cert.ReferenceIdeal.Gen.dats m' 0 0).arrAt_in 2 rfl _), ((hr 0).1 3).trans ((Cert.ReferenceIdeal.Gen.dats m' 0 0).arrAt_in 3 rfl _)⟩)
      (Cert.ReferenceIdeal.Gen.run_main m' g')
  · exact (θ_run defs _ _).mono (fun _ hr c => ⟨(hr.1 c).1.trans (outV_block m g _ _ _ _ h c), (hr.1 c).2⟩) (run_named (F := Ideal) m g)

end Cert.MM
-- ==== Proof.lean ====
/-
# The proof

The five claims, from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  Cert.MM.frame_kernel, Cert.MM.frame_kernelIdeal, fun m ρ _ => Cert.ReferenceIdeal.Gen.frame m ρ, trivial, Cert.MM.algebraic⟩

end Cert.Proof

end
